-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_max [hPre_finite_row_max : Cert.Pre_finite_row_max.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_max.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_max [hPre_finite_row_max : Cert.Pre_finite_row_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_max.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_row_max [hKernelIdeal : Cert.KernelIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_row_max [hReferenceIdeal : Cert.ReferenceIdeal.Facts] [hPre_finite_row_max : Cert.Pre_finite_row_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_row_max [hKernelIdeal : Cert.KernelIdeal.Facts] [hReferenceIdeal : Cert.ReferenceIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_row_max : Cert.Pre_finite_row_max.Facts),
    quiescent_Kernel (hKernel := hKernel)
    ∧ quiescent_KernelIdeal (hKernelIdeal := hKernelIdeal)
    ∧ quiescent_KernelIdeal_pre_finite_row_max (hKernelIdeal := hKernelIdeal) (hPre_finite_row_max := hPre_finite_row_max)
    ∧ quiescent_ReferenceIdeal (hReferenceIdeal := hReferenceIdeal)
    ∧ quiescent_ReferenceIdeal_pre_finite_row_max (hReferenceIdeal := hReferenceIdeal) (hPre_finite_row_max := hPre_finite_row_max)
    ∧ preserves_Kernel_KernelIdeal
    ∧ algebraic_KernelIdeal_ReferenceIdeal_pre_finite_row_max (hKernelIdeal := hKernelIdeal) (hReferenceIdeal := hReferenceIdeal) (hPre_finite_row_max := hPre_finite_row_max)
-- ==== Pre_finite_row_max.lean ====
abbrev S32x1x100000 : Shape := ⟨3, ![32, 1, 100000]⟩
abbrev S_ : Shape := ⟨0, ![]⟩
abbrev S32x1 : Shape := ⟨2, ![32, 1]⟩

class Facts : Prop where
  reducesTo_S32x1x100000_S32x1_d2 : S32x1x100000.ReducesTo [2] S32x1
  h_S_ : 0 < S_.numel
  bcast_S_S32x1 : S_.BroadcastsInDim S32x1 (![] : Fin 0 → Fin S32x1.rank)
  reducesTo_S32x1_S_d0_1 : S32x1.ReducesTo [0, 1] S_

variable [Facts]

def fn {F : FTy → Type} [FloatOps F] (main_arg0 : FVec F S32x1x100000 .f32) : IVec S_ 1 :=
  let main_cst : FVec F S_ .f32 := constant S_ .f32 0xFF800000#32
  let main_v0 : FVec F S32x1 .f32 := (fun x v => Host.reduce FloatOps.maximumf x v reducesTo_S32x1x100000_S32x1_d2 h_S_) main_arg0 main_cst
  let main_cst_0 : FVec F S_ .f32 := constant S_ .f32 0xFF800000#32
  let main_v1 : FVec F S32x1 .f32 := broadcastInDim S32x1 ![] bcast_S_S32x1 main_cst_0
  let main_v2 : IVec S32x1 1 := cmpf .ogt main_v0 main_v1
  let main_cst_1 : FVec F S_ .f32 := constant S_ .f32 0x7F800000#32
  let main_v3 : FVec F S32x1 .f32 := broadcastInDim S32x1 ![] bcast_S_S32x1 main_cst_1
  let main_v4 : IVec S32x1 1 := cmpf .olt main_v0 main_v3
  let main_v5 : IVec S32x1 1 := andi main_v2 main_v4
  let main_c : IVec S_ 1 := constantI S_ 1 1#1
  let main_v6 : IVec S_ 1 := (fun x v => Host.reduce IntOp.andi x v reducesTo_S32x1_S_d0_1 h_S_) main_v5 main_c
  main_v6
-- ==== Kernel.lean ====
abbrev S32x1x100000 : Shape := ⟨3, ![32, 1, 100000]⟩
abbrev S32x100000 : Shape := ⟨2, ![32, 100000]⟩
abbrev S_ : Shape := ⟨0, ![]⟩
abbrev S32x100352 : Shape := ⟨2, ![32, 100352]⟩
abbrev S32x8x1x12544 : Shape := ⟨4, ![32, 8, 1, 12544]⟩
abbrev S1x8x1x12544 : Shape := ⟨4, ![1, 8, 1, 12544]⟩
abbrev S8x8x12544 : Shape := ⟨3, ![8, 8, 12544]⟩
abbrev S8x1x12544 : Shape := ⟨3, ![8, 1, 12544]⟩
abbrev S1 : Shape := ⟨1, ![1]⟩
abbrev S1x1x1x1 : Shape := ⟨4, ![1, 1, 1, 1]⟩
abbrev S8x12544 : Shape := ⟨2, ![8, 12544]⟩
abbrev S1x1x1x12544 : Shape := ⟨4, ![1, 1, 1, 12544]⟩
abbrev S12544 : Shape := ⟨1, ![12544]⟩
abbrev S1x12544 : Shape := ⟨2, ![1, 12544]⟩
abbrev S1x8x12544 : Shape := ⟨3, ![1, 8, 12544]⟩
abbrev S8 : Shape := ⟨1, ![8]⟩
abbrev S8x1 : Shape := ⟨2, ![8, 1]⟩
abbrev S32x1x100352 : Shape := ⟨3, ![32, 1, 100352]⟩

abbrev nBuf : Space → Nat
  | .hbm => 9
  | .vmem => 5
  | .smem => 0
  | _ => 0

abbrev bufTy : (tb : Table) → Fin (tcTables nBuf tb) → BufTy
  | .hbm, ⟨0, _⟩ => ⟨S32x1x100000, .f32⟩
  | .hbm, ⟨1, _⟩ => ⟨S32x100000, .f32⟩
  | .hbm, ⟨2, _⟩ => ⟨S_, .f32⟩
  | .hbm, ⟨3, _⟩ => ⟨S_, .f32⟩
  | .hbm, ⟨4, _⟩ => ⟨S32x100352, .f32⟩
  | .hbm, ⟨5, _⟩ => ⟨S32x8x1x12544, .f32⟩
  | .hbm, ⟨6, _⟩ => ⟨S32x8x1x12544, .f32⟩
  | .hbm, ⟨7, _⟩ => ⟨S32x1x100352, .f32⟩
  | .hbm, ⟨8, _⟩ => ⟨S32x1x100000, .f32⟩
  | .local _ .vmem, ⟨0, _⟩ => ⟨S1x8x1x12544, .f32⟩
  | .local _ .vmem, ⟨1, _⟩ => ⟨S1x8x1x12544, .f32⟩
  | .local _ .vmem, ⟨2, _⟩ => ⟨S1x8x1x12544, .f32⟩
  | .local _ .vmem, ⟨3, _⟩ => ⟨S1x8x1x12544, .f32⟩
  | .local _ .vmem, ⟨4, _⟩ => ⟨S8x8x12544, .f32⟩
  | _, _ => ⟨S32x1x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_off1 (k0_t1 : Fin k0_t1_loop.trips) : Fin 4 → Nat :=
  let c0_51 : Index := 0#32
  let c0_i32 : BitVec 32 := 0#32
  let c1_i32 : BitVec 32 := 1#32
  let arg4 : BitVec 32 := Scf.iv c0_i32 c1_i32 k0_t1
  let v202 : Index := Scalar.indexCast arg4
  let c0_52 : Index := 0#32
  let c0_53 : Index := 0#32
  ![0, v202.toNat, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v213 : Index := Scalar.indexCast arg4
  let c0_55 : Index := 0#32
  let c0_56 : Index := 0#32
  ![v213.toNat, 0, 0]
@[reducible] def k0_t2_loop : Scf.Loop 32 :=
  let c0_i32_9 : BitVec 32 := 0#32
  let c8_i32_10 : BitVec 32 := 8#32
  let v23 : BitVec 32 := Scalar.addi c0_i32_9 c8_i32_10
  let c1_i32_11 : BitVec 32 := 1#32
  ⟨c0_i32_9, v23, c1_i32_11⟩
def k0_off3 (k0_t2 : Fin k0_t2_loop.trips) : Fin 3 → Nat :=
  let c0_i32_9 : BitVec 32 := 0#32
  let c1_i32_11 : BitVec 32 := 1#32
  let arg4 : BitVec 32 := Scf.iv c0_i32_9 c1_i32_11 k0_t2
  let v24 : Index := Scalar.indexCast arg4
  let c0_13 : Index := 0#32
  let c0_14 : Index := 0#32
  ![v24.toNat, 0, 0]
def k0_off4 (k0_t2 : Fin k0_t2_loop.trips) : Fin 4 → Nat :=
  let c0_16 : Index := 0#32
  let c0_i32_9 : BitVec 32 := 0#32
  let c1_i32_11 : BitVec 32 := 1#32
  let arg4 : BitVec 32 := Scf.iv c0_i32_9 c1_i32_11 k0_t2
  let v30 : Index := Scalar.indexCast arg4
  let c0_17 : Index := 0#32
  let c0_18 : Index := 0#32
  ![0, v30.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x1x100000 : Shape := ⟨3, ![32, 1, 100000]⟩
abbrev S_ : Shape := ⟨0, ![]⟩
abbrev S1 : Shape := ⟨1, ![1]⟩
abbrev S2 : Shape := ⟨1, ![2]⟩
abbrev S32x8x100000 : Shape := ⟨3, ![32, 8, 100000]⟩
abbrev S32x8 : Shape := ⟨2, ![32, 8]⟩
abbrev S32x8x1 : Shape := ⟨3, ![32, 8, 1]⟩
abbrev S32x100000 : Shape := ⟨2, ![32, 100000]⟩

abbrev nBuf : Space → Nat
  | .hbm => 302
  | .vmem => 0
  | .smem => 0
  | _ => 0

abbrev hbmTy0_0 (i : Nat) : BufTy := match i % 128 with
  | 0 => ⟨S32x1x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S32x8x100000, .i64⟩
  | 16 => ⟨S32x8x100000, .i64⟩
  | 17 => ⟨S32x8x100000, .i64⟩
  | 18 => ⟨S_, .i64⟩
  | 19 => ⟨S32x8x100000, .i64⟩
  | 20 => ⟨S32x8x100000, .i64⟩
  | 21 => ⟨S_, .i64⟩
  | 22 => ⟨S32x8x100000, .i64⟩
  | 23 => ⟨S32x8x100000, .i64⟩
  | 24 => ⟨S_, .i64⟩
  | 25 => ⟨S32x8x100000, .i64⟩
  | 26 => ⟨S32x8x100000, .i64⟩
  | 27 => ⟨S32x8x100000, .i64⟩
  | 28 => ⟨S32x8x100000, .i64⟩
  | 29 => ⟨S_, .i64⟩
  | 30 => ⟨S32x8x100000, .i64⟩
  | 31 => ⟨S32x8x100000, .i64⟩
  | 32 => ⟨S32x8x100000, .i32⟩
  | 33 => ⟨S32x8x100000, .i32⟩
  | 34 => ⟨S_, .i32⟩
  | 35 => ⟨S_, .i32⟩
  | 36 => ⟨S_, .i32⟩
  | 37 => ⟨S32x8x100000, .i32⟩
  | 38 => ⟨S32x8x100000, .i32⟩
  | 39 => ⟨S32x8x100000, .i32⟩
  | 40 => ⟨S32x8x100000, .i32⟩
  | 41 => ⟨S32x8x100000, .i32⟩
  | 42 => ⟨S_, .i32⟩
  | 43 => ⟨S32x8x100000, .i32⟩
  | 44 => ⟨S32x8x100000, .i32⟩
  | 45 => ⟨S_, .i32⟩
  | 46 => ⟨S32x8x100000, .i32⟩
  | 47 => ⟨S32x8x100000, .i32⟩
  | 48 => ⟨S32x8x100000, .i32⟩
  | 49 => ⟨S32x8x100000, .i32⟩
  | 50 => ⟨S32x8x100000, .i32⟩
  | 51 => ⟨S_, .i32⟩
  | 52 => ⟨S32x8x100000, .i32⟩
  | 53 => ⟨S32x8x100000, .i32⟩
  | 54 => ⟨S_, .i32⟩
  | 55 => ⟨S32x8x100000, .i32⟩
  | 56 => ⟨S32x8x100000, .i32⟩
  | 57 => ⟨S32x8x100000, .i32⟩
  | 58 => ⟨S32x8x100000, .i32⟩
  | 59 => ⟨S32x8x100000, .i32⟩
  | 60 => ⟨S_, .i32⟩
  | 61 => ⟨S32x8x100000, .i32⟩
  | 62 => ⟨S32x8x100000, .i32⟩
  | 63 => ⟨S_, .i32⟩
  | 64 => ⟨S32x8x100000, .i32⟩
  | 65 => ⟨S32x8x100000, .i32⟩
  | 66 => ⟨S32x8x100000, .i32⟩
  | 67 => ⟨S32x8x100000, .i32⟩
  | 68 => ⟨S32x8x100000, .i32⟩
  | 69 => ⟨S_, .i32⟩
  | 70 => ⟨S32x8x100000, .i32⟩
  | 71 => ⟨S32x8x100000, .i32⟩
  | 72 => ⟨S_, .i32⟩
  | 73 => ⟨S32x8x100000, .i32⟩
  | 74 => ⟨S32x8x100000, .i32⟩
  | 75 => ⟨S32x8x100000, .i32⟩
  | 76 => ⟨S32x8x100000, .i32⟩
  | 77 => ⟨S32x8x100000, .i32⟩
  | 78 => ⟨S32x8x100000, .i32⟩
  | 79 => ⟨S32x8x100000, .i32⟩
  | 80 => ⟨S32x8x100000, .i32⟩
  | 81 => ⟨S_, .i32⟩
  | 82 => ⟨S32x8x100000, .i32⟩
  | 83 => ⟨S32x8x100000, .i32⟩
  | 84 => ⟨S32x8x100000, .i32⟩
  | 85 => ⟨S_, .i32⟩
  | 86 => ⟨S32x8x100000, .i32⟩
  | 87 => ⟨S32x8x100000, .i32⟩
  | 88 => ⟨S_, .i32⟩
  | 89 => ⟨S32x8x100000, .i32⟩
  | 90 => ⟨S32x8x100000, .i32⟩
  | 91 => ⟨S32x8x100000, .i32⟩
  | 92 => ⟨S32x8x100000, .i32⟩
  | 93 => ⟨S32x8x100000, .i32⟩
  | 94 => ⟨S_, .i32⟩
  | 95 => ⟨S32x8x100000, .i32⟩
  | 96 => ⟨S32x8x100000, .i32⟩
  | 97 => ⟨S_, .i32⟩
  | 98 => ⟨S32x8x100000, .i32⟩
  | 99 => ⟨S32x8x100000, .i32⟩
  | 100 => ⟨S32x8x100000, .i32⟩
  | 101 => ⟨S32x8x100000, .i32⟩
  | 102 => ⟨S32x8x100000, .i32⟩
  | 103 => ⟨S_, .i32⟩
  | 104 => ⟨S32x8x100000, .i32⟩
  | 105 => ⟨S32x8x100000, .i32⟩
  | 106 => ⟨S_, .i32⟩
  | 107 => ⟨S32x8x100000, .i32⟩
  | 108 => ⟨S32x8x100000, .i32⟩
  | 109 => ⟨S32x8x100000, .i32⟩
  | 110 => ⟨S32x8x100000, .i32⟩
  | 111 => ⟨S32x8x100000, .i32⟩
  | 112 => ⟨S_, .i32⟩
  | 113 => ⟨S32x8x100000, .i32⟩
  | 114 => ⟨S32x8x100000, .i32⟩
  | 115 => ⟨S_, .i32⟩
  | 116 => ⟨S32x8x100000, .i32⟩
  | 117 => ⟨S32x8x100000, .i32⟩
  | 118 => ⟨S32x8x100000, .i32⟩
  | 119 => ⟨S32x8x100000, .i32⟩
  | 120 => ⟨S32x8x100000, .i32⟩
  | 121 => ⟨S32x8x100000, .i32⟩
  | 122 => ⟨S32x8x100000, .i32⟩
  | 123 => ⟨S32x8x100000, .i32⟩
  | 124 => ⟨S_, .i32⟩
  | 125 => ⟨S32x8x100000, .i32⟩
  | 126 => ⟨S32x8x100000, .i32⟩
  | 127 => ⟨S32x8x100000, .i32⟩
  | _ => ⟨S32x1x100000, .f32⟩

abbrev hbmTy0_1 (i : Nat) : BufTy := match i % 128 with
  | 0 => ⟨S_, .i32⟩
  | 1 => ⟨S32x8x100000, .i32⟩
  | 2 => ⟨S32x8x100000, .i32⟩
  | 3 => ⟨S_, .i32⟩
  | 4 => ⟨S32x8x100000, .i32⟩
  | 5 => ⟨S32x8x100000, .i32⟩
  | 6 => ⟨S32x8x100000, .i32⟩
  | 7 => ⟨S32x8x100000, .i32⟩
  | 8 => ⟨S32x8x100000, .i32⟩
  | 9 => ⟨S_, .i32⟩
  | 10 => ⟨S32x8x100000, .i32⟩
  | 11 => ⟨S32x8x100000, .i32⟩
  | 12 => ⟨S_, .i32⟩
  | 13 => ⟨S32x8x100000, .i32⟩
  | 14 => ⟨S32x8x100000, .i32⟩
  | 15 => ⟨S32x8x100000, .i32⟩
  | 16 => ⟨S32x8x100000, .i32⟩
  | 17 => ⟨S32x8x100000, .i32⟩
  | 18 => ⟨S_, .i32⟩
  | 19 => ⟨S32x8x100000, .i32⟩
  | 20 => ⟨S32x8x100000, .i32⟩
  | 21 => ⟨S_, .i32⟩
  | 22 => ⟨S32x8x100000, .i32⟩
  | 23 => ⟨S32x8x100000, .i32⟩
  | 24 => ⟨S32x8x100000, .i32⟩
  | 25 => ⟨S32x8x100000, .i32⟩
  | 26 => ⟨S32x8x100000, .i32⟩
  | 27 => ⟨S_, .i32⟩
  | 28 => ⟨S32x8x100000, .i32⟩
  | 29 => ⟨S32x8x100000, .i32⟩
  | 30 => ⟨S_, .i32⟩
  | 31 => ⟨S32x8x100000, .i32⟩
  | 32 => ⟨S32x8x100000, .i32⟩
  | 33 => ⟨S32x8x100000, .i32⟩
  | 34 => ⟨S32x8x100000, .i32⟩
  | 35 => ⟨S32x8x100000, .i32⟩
  | 36 => ⟨S32x8x100000, .i32⟩
  | 37 => ⟨S32x8x100000, .i32⟩
  | 38 => ⟨S32x8x100000, .i32⟩
  | 39 => ⟨S_, .i32⟩
  | 40 => ⟨S32x8x100000, .i32⟩
  | 41 => ⟨S32x8x100000, .i32⟩
  | 42 => ⟨S32x8x100000, .i32⟩
  | 43 => ⟨S_, .i32⟩
  | 44 => ⟨S32x8x100000, .i32⟩
  | 45 => ⟨S32x8x100000, .i32⟩
  | 46 => ⟨S_, .i32⟩
  | 47 => ⟨S32x8x100000, .i32⟩
  | 48 => ⟨S32x8x100000, .i32⟩
  | 49 => ⟨S32x8x100000, .i32⟩
  | 50 => ⟨S32x8x100000, .i32⟩
  | 51 => ⟨S32x8x100000, .i32⟩
  | 52 => ⟨S_, .i32⟩
  | 53 => ⟨S32x8x100000, .i32⟩
  | 54 => ⟨S32x8x100000, .i32⟩
  | 55 => ⟨S_, .i32⟩
  | 56 => ⟨S32x8x100000, .i32⟩
  | 57 => ⟨S32x8x100000, .i32⟩
  | 58 => ⟨S32x8x100000, .i32⟩
  | 59 => ⟨S32x8x100000, .i32⟩
  | 60 => ⟨S32x8x100000, .i32⟩
  | 61 => ⟨S_, .i32⟩
  | 62 => ⟨S32x8x100000, .i32⟩
  | 63 => ⟨S32x8x100000, .i32⟩
  | 64 => ⟨S_, .i32⟩
  | 65 => ⟨S32x8x100000, .i32⟩
  | 66 => ⟨S32x8x100000, .i32⟩
  | 67 => ⟨S32x8x100000, .i32⟩
  | 68 => ⟨S32x8x100000, .i32⟩
  | 69 => ⟨S32x8x100000, .i32⟩
  | 70 => ⟨S_, .i32⟩
  | 71 => ⟨S32x8x100000, .i32⟩
  | 72 => ⟨S32x8x100000, .i32⟩
  | 73 => ⟨S_, .i32⟩
  | 74 => ⟨S32x8x100000, .i32⟩
  | 75 => ⟨S32x8x100000, .i32⟩
  | 76 => ⟨S32x8x100000, .i32⟩
  | 77 => ⟨S32x8x100000, .i32⟩
  | 78 => ⟨S32x8x100000, .i32⟩
  | 79 => ⟨S32x8x100000, .i32⟩
  | 80 => ⟨S32x8x100000, .i32⟩
  | 81 => ⟨S32x8x100000, .i32⟩
  | 82 => ⟨S_, .i32⟩
  | 83 => ⟨S32x8x100000, .i32⟩
  | 84 => ⟨S32x8x100000, .i32⟩
  | 85 => ⟨S32x8x100000, .i32⟩
  | 86 => ⟨S_, .i32⟩
  | 87 => ⟨S32x8x100000, .i32⟩
  | 88 => ⟨S32x8x100000, .i32⟩
  | 89 => ⟨S_, .i32⟩
  | 90 => ⟨S32x8x100000, .i32⟩
  | 91 => ⟨S32x8x100000, .i32⟩
  | 92 => ⟨S32x8x100000, .i32⟩
  | 93 => ⟨S32x8x100000, .i32⟩
  | 94 => ⟨S32x8x100000, .i32⟩
  | 95 => ⟨S_, .i32⟩
  | 96 => ⟨S32x8x100000, .i32⟩
  | 97 => ⟨S32x8x100000, .i32⟩
  | 98 => ⟨S_, .i32⟩
  | 99 => ⟨S32x8x100000, .i32⟩
  | 100 => ⟨S32x8x100000, .i32⟩
  | 101 => ⟨S32x8x100000, .i32⟩
  | 102 => ⟨S32x8x100000, .i32⟩
  | 103 => ⟨S32x8x100000, .i32⟩
  | 104 => ⟨S_, .i32⟩
  | 105 => ⟨S32x8x100000, .i32⟩
  | 106 => ⟨S32x8x100000, .i32⟩
  | 107 => ⟨S_, .i32⟩
  | 108 => ⟨S32x8x100000, .i32⟩
  | 109 => ⟨S32x8x100000, .i32⟩
  | 110 => ⟨S32x8x100000, .i32⟩
  | 111 => ⟨S32x8x100000, .i32⟩
  | 112 => ⟨S32x8x100000, .i32⟩
  | 113 => ⟨S_, .i32⟩
  | 114 => ⟨S32x8x100000, .i32⟩
  | 115 => ⟨S32x8x100000, .i32⟩
  | 116 => ⟨S_, .i32⟩
  | 117 => ⟨S32x8x100000, .i32⟩
  | 118 => ⟨S32x8x100000, .i32⟩
  | 119 => ⟨S32x8x100000, .i32⟩
  | 120 => ⟨S32x8x100000, .i32⟩
  | 121 => ⟨S32x8x100000, .i32⟩
  | 122 => ⟨S32x8x100000, .i32⟩
  | 123 => ⟨S32x8x100000, .i32⟩
  | 124 => ⟨S32x8x100000, .i32⟩
  | 125 => ⟨S_, .i32⟩
  | 126 => ⟨S32x8x100000, .i32⟩
  | 127 => ⟨S32x8x100000, .i32⟩
  | _ => ⟨S32x1x100000, .f32⟩

abbrev hbmTy0_2 (i : Nat) : BufTy := match i % 128 with
  | 0 => ⟨S32x8x100000, .i32⟩
  | 1 => ⟨S_, .i32⟩
  | 2 => ⟨S32x8x100000, .i32⟩
  | 3 => ⟨S32x8x100000, .i32⟩
  | 4 => ⟨S_, .i32⟩
  | 5 => ⟨S32x8x100000, .i32⟩
  | 6 => ⟨S32x8x100000, .i32⟩
  | 7 => ⟨S32x8x100000, .f32⟩
  | 8 => ⟨S_, .f32⟩
  | 9 => ⟨S32x8x100000, .f32⟩
  | 10 => ⟨S32x8x100000, .f32⟩
  | 11 => ⟨S_, .f32⟩
  | 12 => ⟨S32x8x100000, .f32⟩
  | 13 => ⟨S32x8x100000, .f32⟩
  | 14 => ⟨S_, .f32⟩
  | 15 => ⟨S32x8x100000, .f32⟩
  | 16 => ⟨S32x8x100000, .f32⟩
  | 17 => ⟨S_, .f32⟩
  | 18 => ⟨S32x8x100000, .f32⟩
  | 19 => ⟨S32x8x100000, .f32⟩
  | 20 => ⟨S32x8x100000, .f32⟩
  | 21 => ⟨S32x8x100000, .f32⟩
  | 22 => ⟨S32x8x100000, .f32⟩
  | 23 => ⟨S32x8x100000, .f32⟩
  | 24 => ⟨S32x8x100000, .f32⟩
  | 25 => ⟨S32x8x100000, .f32⟩
  | 26 => ⟨S_, .f32⟩
  | 27 => ⟨S32x8x100000, .f32⟩
  | 28 => ⟨S32x8x100000, .f32⟩
  | 29 => ⟨S_, .f32⟩
  | 30 => ⟨S32x8, .f32⟩
  | 31 => ⟨S_, .f32⟩
  | 32 => ⟨S32x8, .f32⟩
  | 33 => ⟨S32x8, .f32⟩
  | 34 => ⟨S32x8x1, .f32⟩
  | 35 => ⟨S32x8x100000, .f32⟩
  | 36 => ⟨S32x8x100000, .f32⟩
  | 37 => ⟨S32x8x100000, .f32⟩
  | 38 => ⟨S_, .f32⟩
  | 39 => ⟨S32x8, .f32⟩
  | 40 => ⟨S32x8x1, .f32⟩
  | 41 => ⟨S32x8x100000, .f32⟩
  | 42 => ⟨S32x8x100000, .f32⟩
  | 43 => ⟨S_, .f32⟩
  | 44 => ⟨S32x100000, .f32⟩
  | 45 => ⟨S32x1x100000, .f32⟩
  | _ => ⟨S32x1x100000, .f32⟩

abbrev hbmTy (i : Nat) : BufTy := match i / 128 with
  | 0 => hbmTy0_0 i
  | 1 => hbmTy0_1 i
  | 2 => hbmTy0_2 i
  | _ => ⟨S32x1x100000, .f32⟩

abbrev bufTy : (tb : Table) → Fin (tcTables nBuf tb) → BufTy
  | .hbm, ⟨i, _⟩ => hbmTy i
  | _, _ => ⟨S32x1x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_5 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_c_0 : Ref sig .tc := ⟨.hbm, 42, rfl⟩
abbrev main_call0_v7 : Ref sig .tc := ⟨.hbm, 43, rfl⟩
abbrev main_call0_v8 : Ref sig .tc := ⟨.hbm, 44, rfl⟩
abbrev main_call0_c_1 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_c_2 : Ref sig .tc := ⟨.hbm, 51, rfl⟩
abbrev main_call0_v14 : Ref sig .tc := ⟨.hbm, 52, rfl⟩
abbrev main_call0_v15 : Ref sig .tc := ⟨.hbm, 53, rfl⟩
abbrev main_call0_c_3 : Ref sig .tc := ⟨.hbm, 54, rfl⟩
abbrev main_call0_v16 : Ref sig .tc := ⟨.hbm, 55, rfl⟩
abbrev main_call0_v17 : Ref sig .tc := ⟨.hbm, 56, rfl⟩
abbrev main_call0_v18 : Ref sig .tc := ⟨.hbm, 57, rfl⟩
abbrev main_call0_v19 : Ref sig .tc := ⟨.hbm, 58, rfl⟩
abbrev main_call0_v20 : Ref sig .tc := ⟨.hbm, 59, rfl⟩
abbrev main_call0_c_4 : Ref sig .tc := ⟨.hbm, 60, rfl⟩
abbrev main_call0_v21 : Ref sig .tc := ⟨.hbm, 61, rfl⟩
abbrev main_call0_v22 : Ref sig .tc := ⟨.hbm, 62, rfl⟩
abbrev main_call0_c_5 : Ref sig .tc := ⟨.hbm, 63, rfl⟩
abbrev main_call0_v23 : Ref sig .tc := ⟨.hbm, 64, rfl⟩
abbrev main_call0_v24 : Ref sig .tc := ⟨.hbm, 65, rfl⟩
abbrev main_call0_v25 : Ref sig .tc := ⟨.hbm, 66, rfl⟩
abbrev main_call0_v26 : Ref sig .tc := ⟨.hbm, 67, rfl⟩
abbrev main_call0_v27 : Ref sig .tc := ⟨.hbm, 68, rfl⟩
abbrev main_call0_c_6 : Ref sig .tc := ⟨.hbm, 69, rfl⟩
abbrev main_call0_v28 : Ref sig .tc := ⟨.hbm, 70, rfl⟩
abbrev main_call0_v29 : Ref sig .tc := ⟨.hbm, 71, rfl⟩
abbrev main_call0_c_7 : Ref sig .tc := ⟨.hbm, 72, rfl⟩
abbrev main_call0_v30 : Ref sig .tc := ⟨.hbm, 73, rfl⟩
abbrev main_call0_v31 : Ref sig .tc := ⟨.hbm, 74, rfl⟩
abbrev main_call0_v32 : Ref sig .tc := ⟨.hbm, 75, rfl⟩
abbrev main_call0_v33 : Ref sig .tc := ⟨.hbm, 76, rfl⟩
abbrev main_call0_v34 : Ref sig .tc := ⟨.hbm, 77, rfl⟩
abbrev main_call0_v35 : Ref sig .tc := ⟨.hbm, 78, rfl⟩
abbrev main_call0_v36 : Ref sig .tc := ⟨.hbm, 79, rfl⟩
abbrev main_call0_v37 : Ref sig .tc := ⟨.hbm, 80, rfl⟩
abbrev main_call0_c_8 : Ref sig .tc := ⟨.hbm, 81, rfl⟩
abbrev main_call0_v38 : Ref sig .tc := ⟨.hbm, 82, rfl⟩
abbrev main_call0_v39 : Ref sig .tc := ⟨.hbm, 83, rfl⟩
abbrev main_call0_v40 : Ref sig .tc := ⟨.hbm, 84, rfl⟩
abbrev main_call0_c_9 : Ref sig .tc := ⟨.hbm, 85, rfl⟩
abbrev main_call0_v41 : Ref sig .tc := ⟨.hbm, 86, rfl⟩
abbrev main_call0_v42 : Ref sig .tc := ⟨.hbm, 87, rfl⟩
abbrev main_call0_c_10 : Ref sig .tc := ⟨.hbm, 88, rfl⟩
abbrev main_call0_v43 : Ref sig .tc := ⟨.hbm, 89, rfl⟩
abbrev main_call0_v44 : Ref sig .tc := ⟨.hbm, 90, rfl⟩
abbrev main_call0_v45 : Ref sig .tc := ⟨.hbm, 91, rfl⟩
abbrev main_call0_v46 : Ref sig .tc := ⟨.hbm, 92, rfl⟩
abbrev main_call0_v47 : Ref sig .tc := ⟨.hbm, 93, rfl⟩
abbrev main_call0_c_11 : Ref sig .tc := ⟨.hbm, 94, rfl⟩
abbrev main_call0_v48 : Ref sig .tc := ⟨.hbm, 95, rfl⟩
abbrev main_call0_v49 : Ref sig .tc := ⟨.hbm, 96, rfl⟩
abbrev main_call0_c_12 : Ref sig .tc := ⟨.hbm, 97, rfl⟩
abbrev main_call0_v50 : Ref sig .tc := ⟨.hbm, 98, rfl⟩
abbrev main_call0_v51 : Ref sig .tc := ⟨.hbm, 99, rfl⟩
abbrev main_call0_v52 : Ref sig .tc := ⟨.hbm, 100, rfl⟩
abbrev main_call0_v53 : Ref sig .tc := ⟨.hbm, 101, rfl⟩
abbrev main_call0_v54 : Ref sig .tc := ⟨.hbm, 102, rfl⟩
abbrev main_call0_c_13 : Ref sig .tc := ⟨.hbm, 103, rfl⟩
abbrev main_call0_v55 : Ref sig .tc := ⟨.hbm, 104, rfl⟩
abbrev main_call0_v56 : Ref sig .tc := ⟨.hbm, 105, rfl⟩
abbrev main_call0_c_14 : Ref sig .tc := ⟨.hbm, 106, rfl⟩
abbrev main_call0_v57 : Ref sig .tc := ⟨.hbm, 107, rfl⟩
abbrev main_call0_v58 : Ref sig .tc := ⟨.hbm, 108, rfl⟩
abbrev main_call0_v59 : Ref sig .tc := ⟨.hbm, 109, rfl⟩
abbrev main_call0_v60 : Ref sig .tc := ⟨.hbm, 110, rfl⟩
abbrev main_call0_v61 : Ref sig .tc := ⟨.hbm, 111, rfl⟩
abbrev main_call0_c_15 : Ref sig .tc := ⟨.hbm, 112, rfl⟩
abbrev main_call0_v62 : Ref sig .tc := ⟨.hbm, 113, rfl⟩
abbrev main_call0_v63 : Ref sig .tc := ⟨.hbm, 114, rfl⟩
abbrev main_call0_c_16 : Ref sig .tc := ⟨.hbm, 115, rfl⟩
abbrev main_call0_v64 : Ref sig .tc := ⟨.hbm, 116, rfl⟩
abbrev main_call0_v65 : Ref sig .tc := ⟨.hbm, 117, rfl⟩
abbrev main_call0_v66 : Ref sig .tc := ⟨.hbm, 118, rfl⟩
abbrev main_call0_v67 : Ref sig .tc := ⟨.hbm, 119, rfl⟩
abbrev main_call0_v68 : Ref sig .tc := ⟨.hbm, 120, rfl⟩
abbrev main_call0_v69 : Ref sig .tc := ⟨.hbm, 121, rfl⟩
abbrev main_call0_v70 : Ref sig .tc := ⟨.hbm, 122, rfl⟩
abbrev main_call0_v71 : Ref sig .tc := ⟨.hbm, 123, rfl⟩
abbrev main_call0_c_17 : Ref sig .tc := ⟨.hbm, 124, rfl⟩
abbrev main_call0_v72 : Ref sig .tc := ⟨.hbm, 125, rfl⟩
abbrev main_call0_v73 : Ref sig .tc := ⟨.hbm, 126, rfl⟩
abbrev main_call0_v74 : Ref sig .tc := ⟨.hbm, 127, rfl⟩
abbrev main_call0_c_18 : Ref sig .tc := ⟨.hbm, 128, rfl⟩
abbrev main_call0_v75 : Ref sig .tc := ⟨.hbm, 129, rfl⟩
abbrev main_call0_v76 : Ref sig .tc := ⟨.hbm, 130, rfl⟩
abbrev main_call0_c_19 : Ref sig .tc := ⟨.hbm, 131, rfl⟩
abbrev main_call0_v77 : Ref sig .tc := ⟨.hbm, 132, rfl⟩
abbrev main_call0_v78 : Ref sig .tc := ⟨.hbm, 133, rfl⟩
abbrev main_call0_v79 : Ref sig .tc := ⟨.hbm, 134, rfl⟩
abbrev main_call0_v80 : Ref sig .tc := ⟨.hbm, 135, rfl⟩
abbrev main_call0_v81 : Ref sig .tc := ⟨.hbm, 136, rfl⟩
abbrev main_call0_c_20 : Ref sig .tc := ⟨.hbm, 137, rfl⟩
abbrev main_call0_v82 : Ref sig .tc := ⟨.hbm, 138, rfl⟩
abbrev main_call0_v83 : Ref sig .tc := ⟨.hbm, 139, rfl⟩
abbrev main_call0_c_21 : Ref sig .tc := ⟨.hbm, 140, rfl⟩
abbrev main_call0_v84 : Ref sig .tc := ⟨.hbm, 141, rfl⟩
abbrev main_call0_v85 : Ref sig .tc := ⟨.hbm, 142, rfl⟩
abbrev main_call0_v86 : Ref sig .tc := ⟨.hbm, 143, rfl⟩
abbrev main_call0_v87 : Ref sig .tc := ⟨.hbm, 144, rfl⟩
abbrev main_call0_v88 : Ref sig .tc := ⟨.hbm, 145, rfl⟩
abbrev main_call0_c_22 : Ref sig .tc := ⟨.hbm, 146, rfl⟩
abbrev main_call0_v89 : Ref sig .tc := ⟨.hbm, 147, rfl⟩
abbrev main_call0_v90 : Ref sig .tc := ⟨.hbm, 148, rfl⟩
abbrev main_call0_c_23 : Ref sig .tc := ⟨.hbm, 149, rfl⟩
abbrev main_call0_v91 : Ref sig .tc := ⟨.hbm, 150, rfl⟩
abbrev main_call0_v92 : Ref sig .tc := ⟨.hbm, 151, rfl⟩
abbrev main_call0_v93 : Ref sig .tc := ⟨.hbm, 152, rfl⟩
abbrev main_call0_v94 : Ref sig .tc := ⟨.hbm, 153, rfl⟩
abbrev main_call0_v95 : Ref sig .tc := ⟨.hbm, 154, rfl⟩
abbrev main_call0_c_24 : Ref sig .tc := ⟨.hbm, 155, rfl⟩
abbrev main_call0_v96 : Ref sig .tc := ⟨.hbm, 156, rfl⟩
abbrev main_call0_v97 : Ref sig .tc := ⟨.hbm, 157, rfl⟩
abbrev main_call0_c_25 : Ref sig .tc := ⟨.hbm, 158, rfl⟩
abbrev main_call0_v98 : Ref sig .tc := ⟨.hbm, 159, rfl⟩
abbrev main_call0_v99 : Ref sig .tc := ⟨.hbm, 160, rfl⟩
abbrev main_call0_v100 : Ref sig .tc := ⟨.hbm, 161, rfl⟩
abbrev main_call0_v101 : Ref sig .tc := ⟨.hbm, 162, rfl⟩
abbrev main_call0_v102 : Ref sig .tc := ⟨.hbm, 163, rfl⟩
abbrev main_call0_v103 : Ref sig .tc := ⟨.hbm, 164, rfl⟩
abbrev main_call0_v104 : Ref sig .tc := ⟨.hbm, 165, rfl⟩
abbrev main_call0_v105 : Ref sig .tc := ⟨.hbm, 166, rfl⟩
abbrev main_call0_c_26 : Ref sig .tc := ⟨.hbm, 167, rfl⟩
abbrev main_call0_v106 : Ref sig .tc := ⟨.hbm, 168, rfl⟩
abbrev main_call0_v107 : Ref sig .tc := ⟨.hbm, 169, rfl⟩
abbrev main_call0_v108 : Ref sig .tc := ⟨.hbm, 170, rfl⟩
abbrev main_call0_c_27 : Ref sig .tc := ⟨.hbm, 171, rfl⟩
abbrev main_call0_v109 : Ref sig .tc := ⟨.hbm, 172, rfl⟩
abbrev main_call0_v110 : Ref sig .tc := ⟨.hbm, 173, rfl⟩
abbrev main_call0_c_28 : Ref sig .tc := ⟨.hbm, 174, rfl⟩
abbrev main_call0_v111 : Ref sig .tc := ⟨.hbm, 175, rfl⟩
abbrev main_call0_v112 : Ref sig .tc := ⟨.hbm, 176, rfl⟩
abbrev main_call0_v113 : Ref sig .tc := ⟨.hbm, 177, rfl⟩
abbrev main_call0_v114 : Ref sig .tc := ⟨.hbm, 178, rfl⟩
abbrev main_call0_v115 : Ref sig .tc := ⟨.hbm, 179, rfl⟩
abbrev main_call0_c_29 : Ref sig .tc := ⟨.hbm, 180, rfl⟩
abbrev main_call0_v116 : Ref sig .tc := ⟨.hbm, 181, rfl⟩
abbrev main_call0_v117 : Ref sig .tc := ⟨.hbm, 182, rfl⟩
abbrev main_call0_c_30 : Ref sig .tc := ⟨.hbm, 183, rfl⟩
abbrev main_call0_v118 : Ref sig .tc := ⟨.hbm, 184, rfl⟩
abbrev main_call0_v119 : Ref sig .tc := ⟨.hbm, 185, rfl⟩
abbrev main_call0_v120 : Ref sig .tc := ⟨.hbm, 186, rfl⟩
abbrev main_call0_v121 : Ref sig .tc := ⟨.hbm, 187, rfl⟩
abbrev main_call0_v122 : Ref sig .tc := ⟨.hbm, 188, rfl⟩
abbrev main_call0_c_31 : Ref sig .tc := ⟨.hbm, 189, rfl⟩
abbrev main_call0_v123 : Ref sig .tc := ⟨.hbm, 190, rfl⟩
abbrev main_call0_v124 : Ref sig .tc := ⟨.hbm, 191, rfl⟩
abbrev main_call0_c_32 : Ref sig .tc := ⟨.hbm, 192, rfl⟩
abbrev main_call0_v125 : Ref sig .tc := ⟨.hbm, 193, rfl⟩
abbrev main_call0_v126 : Ref sig .tc := ⟨.hbm, 194, rfl⟩
abbrev main_call0_v127 : Ref sig .tc := ⟨.hbm, 195, rfl⟩
abbrev main_call0_v128 : Ref sig .tc := ⟨.hbm, 196, rfl⟩
abbrev main_call0_v129 : Ref sig .tc := ⟨.hbm, 197, rfl⟩
abbrev main_call0_c_33 : Ref sig .tc := ⟨.hbm, 198, rfl⟩
abbrev main_call0_v130 : Ref sig .tc := ⟨.hbm, 199, rfl⟩
abbrev main_call0_v131 : Ref sig .tc := ⟨.hbm, 200, rfl⟩
abbrev main_call0_c_34 : Ref sig .tc := ⟨.hbm, 201, rfl⟩
abbrev main_call0_v132 : Ref sig .tc := ⟨.hbm, 202, rfl⟩
abbrev main_call0_v133 : Ref sig .tc := ⟨.hbm, 203, rfl⟩
abbrev main_call0_v134 : Ref sig .tc := ⟨.hbm, 204, rfl⟩
abbrev main_call0_v135 : Ref sig .tc := ⟨.hbm, 205, rfl⟩
abbrev main_call0_v136 : Ref sig .tc := ⟨.hbm, 206, rfl⟩
abbrev main_call0_v137 : Ref sig .tc := ⟨.hbm, 207, rfl⟩
abbrev main_call0_v138 : Ref sig .tc := ⟨.hbm, 208, rfl⟩
abbrev main_call0_v139 : Ref sig .tc := ⟨.hbm, 209, rfl⟩
abbrev main_call0_c_35 : Ref sig .tc := ⟨.hbm, 210, rfl⟩
abbrev main_call0_v140 : Ref sig .tc := ⟨.hbm, 211, rfl⟩
abbrev main_call0_v141 : Ref sig .tc := ⟨.hbm, 212, rfl⟩
abbrev main_call0_v142 : Ref sig .tc := ⟨.hbm, 213, rfl⟩
abbrev main_call0_c_36 : Ref sig .tc := ⟨.hbm, 214, rfl⟩
abbrev main_call0_v143 : Ref sig .tc := ⟨.hbm, 215, rfl⟩
abbrev main_call0_v144 : Ref sig .tc := ⟨.hbm, 216, rfl⟩
abbrev main_call0_c_37 : Ref sig .tc := ⟨.hbm, 217, rfl⟩
abbrev main_call0_v145 : Ref sig .tc := ⟨.hbm, 218, rfl⟩
abbrev main_call0_v146 : Ref sig .tc := ⟨.hbm, 219, rfl⟩
abbrev main_call0_v147 : Ref sig .tc := ⟨.hbm, 220, rfl⟩
abbrev main_call0_v148 : Ref sig .tc := ⟨.hbm, 221, rfl⟩
abbrev main_call0_v149 : Ref sig .tc := ⟨.hbm, 222, rfl⟩
abbrev main_call0_c_38 : Ref sig .tc := ⟨.hbm, 223, rfl⟩
abbrev main_call0_v150 : Ref sig .tc := ⟨.hbm, 224, rfl⟩
abbrev main_call0_v151 : Ref sig .tc := ⟨.hbm, 225, rfl⟩
abbrev main_call0_c_39 : Ref sig .tc := ⟨.hbm, 226, rfl⟩
abbrev main_call0_v152 : Ref sig .tc := ⟨.hbm, 227, rfl⟩
abbrev main_call0_v153 : Ref sig .tc := ⟨.hbm, 228, rfl⟩
abbrev main_call0_v154 : Ref sig .tc := ⟨.hbm, 229, rfl⟩
abbrev main_call0_v155 : Ref sig .tc := ⟨.hbm, 230, rfl⟩
abbrev main_call0_v156 : Ref sig .tc := ⟨.hbm, 231, rfl⟩
abbrev main_call0_c_40 : Ref sig .tc := ⟨.hbm, 232, rfl⟩
abbrev main_call0_v157 : Ref sig .tc := ⟨.hbm, 233, rfl⟩
abbrev main_call0_v158 : Ref sig .tc := ⟨.hbm, 234, rfl⟩
abbrev main_call0_c_41 : Ref sig .tc := ⟨.hbm, 235, rfl⟩
abbrev main_call0_v159 : Ref sig .tc := ⟨.hbm, 236, rfl⟩
abbrev main_call0_v160 : Ref sig .tc := ⟨.hbm, 237, rfl⟩
abbrev main_call0_v161 : Ref sig .tc := ⟨.hbm, 238, rfl⟩
abbrev main_call0_v162 : Ref sig .tc := ⟨.hbm, 239, rfl⟩
abbrev main_call0_v163 : Ref sig .tc := ⟨.hbm, 240, rfl⟩
abbrev main_call0_c_42 : Ref sig .tc := ⟨.hbm, 241, rfl⟩
abbrev main_call0_v164 : Ref sig .tc := ⟨.hbm, 242, rfl⟩
abbrev main_call0_v165 : Ref sig .tc := ⟨.hbm, 243, rfl⟩
abbrev main_call0_c_43 : Ref sig .tc := ⟨.hbm, 244, rfl⟩
abbrev main_call0_v166 : Ref sig .tc := ⟨.hbm, 245, rfl⟩
abbrev main_call0_v167 : Ref sig .tc := ⟨.hbm, 246, rfl⟩
abbrev main_call0_v168 : Ref sig .tc := ⟨.hbm, 247, rfl⟩
abbrev main_call0_v169 : Ref sig .tc := ⟨.hbm, 248, rfl⟩
abbrev main_call0_v170 : Ref sig .tc := ⟨.hbm, 249, rfl⟩
abbrev main_v26_0 : Ref sig .tc := ⟨.hbm, 250, rfl⟩
abbrev main_call0_v172 : Ref sig .tc := ⟨.hbm, 251, rfl⟩
abbrev main_call0_v173 : Ref sig .tc := ⟨.hbm, 252, rfl⟩
abbrev main_call0_c_44 : Ref sig .tc := ⟨.hbm, 253, rfl⟩
abbrev main_call0_v174 : Ref sig .tc := ⟨.hbm, 254, rfl⟩
abbrev main_v26_1 : Ref sig .tc := ⟨.hbm, 255, rfl⟩
abbrev main_v27 : Ref sig .tc := ⟨.hbm, 256, rfl⟩
abbrev main_c_6 : Ref sig .tc := ⟨.hbm, 257, rfl⟩
abbrev main_v28 : Ref sig .tc := ⟨.hbm, 258, rfl⟩
abbrev main_v29 : Ref sig .tc := ⟨.hbm, 259, rfl⟩
abbrev main_c_7 : Ref sig .tc := ⟨.hbm, 260, rfl⟩
abbrev main_v30 : Ref sig .tc := ⟨.hbm, 261, rfl⟩
abbrev main_v31 : Ref sig .tc := ⟨.hbm, 262, rfl⟩
abbrev main_v32 : Ref sig .tc := ⟨.hbm, 263, rfl⟩
abbrev main_cst : Ref sig .tc := ⟨.hbm, 264, rfl⟩
abbrev main_v33 : Ref sig .tc := ⟨.hbm, 265, rfl⟩
abbrev main_v34 : Ref sig .tc := ⟨.hbm, 266, rfl⟩
abbrev main_cst_8 : Ref sig .tc := ⟨.hbm, 267, rfl⟩
abbrev main_v35 : Ref sig .tc := ⟨.hbm, 268, rfl⟩
abbrev main_v36 : Ref sig .tc := ⟨.hbm, 269, rfl⟩
abbrev main_cst_9 : Ref sig .tc := ⟨.hbm, 270, rfl⟩
abbrev main_v37 : Ref sig .tc := ⟨.hbm, 271, rfl⟩
abbrev main_v38 : Ref sig .tc := ⟨.hbm, 272, rfl⟩
abbrev main_cst_10 : Ref sig .tc := ⟨.hbm, 273, rfl⟩
abbrev main_v39 : Ref sig .tc := ⟨.hbm, 274, rfl⟩
abbrev main_v40 : Ref sig .tc := ⟨.hbm, 275, rfl⟩
abbrev main_v41 : Ref sig .tc := ⟨.hbm, 276, rfl⟩
abbrev main_v42 : Ref sig .tc := ⟨.hbm, 277, rfl⟩
abbrev main_v43 : Ref sig .tc := ⟨.hbm, 278, rfl⟩
abbrev main_v44 : Ref sig .tc := ⟨.hbm, 279, rfl⟩
abbrev main_v45 : Ref sig .tc := ⟨.hbm, 280, rfl⟩
abbrev main_v46 : Ref sig .tc := ⟨.hbm, 281, rfl⟩
abbrev main_cst_11 : Ref sig .tc := ⟨.hbm, 282, rfl⟩
abbrev main_v47 : Ref sig .tc := ⟨.hbm, 283, rfl⟩
abbrev main_v48 : Ref sig .tc := ⟨.hbm, 284, rfl⟩
abbrev main_cst_12 : Ref sig .tc := ⟨.hbm, 285, rfl⟩
abbrev main_v49 : Ref sig .tc := ⟨.hbm, 286, rfl⟩
abbrev main_cst_13 : Ref sig .tc := ⟨.hbm, 287, rfl⟩
abbrev main_v50 : Ref sig .tc := ⟨.hbm, 288, rfl⟩
abbrev main_v51 : Ref sig .tc := ⟨.hbm, 289, rfl⟩
abbrev main_v52 : Ref sig .tc := ⟨.hbm, 290, rfl⟩
abbrev main_v53 : Ref sig .tc := ⟨.hbm, 291, rfl⟩
abbrev main_v54 : Ref sig .tc := ⟨.hbm, 292, rfl⟩
abbrev main_v55 : Ref sig .tc := ⟨.hbm, 293, rfl⟩
abbrev main_cst_14 : Ref sig .tc := ⟨.hbm, 294, rfl⟩
abbrev main_v56 : Ref sig .tc := ⟨.hbm, 295, rfl⟩
abbrev main_v57 : Ref sig .tc := ⟨.hbm, 296, rfl⟩
abbrev main_v58 : Ref sig .tc := ⟨.hbm, 297, rfl⟩
abbrev main_v59 : Ref sig .tc := ⟨.hbm, 298, rfl⟩
abbrev main_cst_15 : Ref sig .tc := ⟨.hbm, 299, rfl⟩
abbrev main_v60 : Ref sig .tc := ⟨.hbm, 300, rfl⟩
abbrev main_v61 : Ref sig .tc := ⟨.hbm, 301, rfl⟩

abbrev nD : Nat := 1
abbrev τ : Topo := Topo.v7x

variable {F : FTy → Type} [FloatOps F]
-- ==== Proof.Kern.Trips.lean ====
/- What one trip of each of the kernel's two loops computes, stated on the printed payloads: the first loop's trip adds
   one lane chunk's exponentials to the running sum and stores them in the scratch row of its number; the second loop's
   trip stores one output chunk computed from that scratch row and the whole sum. -/
module

public import proofs.«01_k».proof.Proof.Gen.KernelIdeal.Loops
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic

variable {F : FTy → Type} [FloatOps F]

/-- The two words of the generator after five of the twenty rounds, at trip `k` of the grid point `i`. -/
def state1 (i : grid0.Coords) (k : Fin k0_t1_loop.trips) : IVec S8x12544 32 × IVec S8x12544 32 :=
  (k0_pay16 (k0_pay1 i) 0#32 1#32 k, k0_pay17 (k0_pay1 i) 0#32 1#32 k)

/-- The same after ten rounds. -/
def state2 (i : grid0.Coords) (k : Fin k0_t1_loop.trips) : IVec S8x12544 32 × IVec S8x12544 32 :=
  (k0_pay28 (state1 i k).1 (state1 i k).2 29#32, k0_pay29 (state1 i k).1 (state1 i k).2 29#32)

/-- What the drawn words become: for each of them `1 / (log u)²`, `u` the uniform value drawn. -/
def weight (i : grid0.Coords) (k : Fin k0_t1_loop.trips) : FVec F S8x12544 .f32 :=
  k0_pay41 (k0_pay38 (state2 i k).1 (state2 i k).2 6#32) (k0_pay39 (state2 i k).1 (state2 i k).2 6#32)
    (k0_pay40 (state2 i k).1 (state2 i k).2 6#32) 19#32

/-- Chunk `k` of the input block. -/
def chunk (x : Vec F S1x8x1x12544 .f32) (k : Fin k0_t1_loop.trips) : Vec F S1x1x1x12544 .f32 :=
  View.ld x (Rect.unit (s := S1x8x1x12544) (k0_off1 k) S1x1x1x12544.size (k0_off1_inb k))

variable (𝒱 : Variants) (c : Dev nD) (bd : Option 𝒱.V) (i : grid0.Coords)
  (arg1 : Memref sig .tc .vmem S1x8x1x12544 .f32) (h1 : arg1.IsWhole)
  (arg2 : Memref sig .tc .vmem S1x8x1x12544 .f32) (h2 : arg2.IsWhole)
  (arg3 : Memref sig .tc .vmem S8x8x12544 .f32) (h3 : arg3.IsWhole)

/-- The first loop's trip yields the running sum plus the chunk's exponentials. -/
theorem tripR_eq (v0 x : Vec F S1x8x1x12544 .f32) (k : Fin k0_t1_loop.trips) (acc : FVec F S8x12544 .f32) :
    tripR_k0_t1 𝒱 c bd i arg1 h1 arg2 h2 arg3 h3 v0 (h1.unread x) k acc = k0_pay5 v0 acc (weight i k) (chunk x k) := by
  unfold tripR_k0_t1 trip_k0_t1
  dsimp only
  simp only [View.readAt_eq_ld, h1.read_unread]
  rfl

/-- It stores one piece: the chunk's exponentials, in the scratch row of its number. -/
theorem tripL_eq (v0 x : Vec F S1x8x1x12544 .f32) (k : Fin k0_t1_loop.trips) (acc : FVec F S8x12544 .f32) :
    tripL_k0_t1 𝒱 c bd i arg1 h1 arg2 h2 arg3 h3 v0 (h1.unread x) k acc
      = [⟨Rect.unit (s := S8x8x12544) (k0_off2 k) S1x8x12544.size (k0_off2_inb k), k0_pay4 v0 (weight i k) (chunk x k)⟩] := by
  unfold tripL_k0_t1 trip_k0_t1
  dsimp only
  simp only [View.readAt_eq_ld, h1.read_unread]
  rfl

/-- The second loop's trip stores one piece: the output chunk of its number, from that scratch row and the sum. -/
theorem trip2L_eq (v18 : FVec F S8x12544 .f32) (X : BufTy.Contents (Elt F) arg3.view.ty) (k : Fin k0_t2_loop.trips) :
    tripL_k0_t2 𝒱 c bd i arg1 h1 arg2 h2 arg3 h3 v18 X k
      = [⟨Rect.unit (s := S1x8x1x12544) (k0_off4 k) S1x1x1x12544.size (k0_off4_inb k),
          k0_pay6 v18 (View.ld (View.read (Elt F) arg3.view X)
            (Rect.unit (s := S8x8x12544) (k0_off3 k) S1x8x12544.size (k0_off3_inb k)))⟩] := by
  unfold tripL_k0_t2 trip_k0_t2
  dsimp only
  simp only [View.readAt_eq_ld]

end Cert.KernelIdeal.Val

end
-- ==== Proof.Kern.Block.lean ====
/- What the kernel body leaves in the output block of one grid point, as a function of the grid point and the input
   block: the running sum after each trip of the first loop, the scratch rows it fills, and the output chunks that the
   second loop computes from them. -/
module

public import proofs.«01_k».proof.Proof.Kern.Trips
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic

variable {F : FTy → Type} [FloatOps F]

/-- The first loop makes eight trips. -/
theorem trips1 : k0_t1_loop.trips = 8 := by decide
/-- The second loop makes eight trips. -/
theorem trips2 : k0_t2_loop.trips = 8 := by decide

/-- Trip `k` of the first loop, from a number below eight. -/
def tr1 (k : Fin 8) : Fin k0_t1_loop.trips := ⟨k.val, trips1.symm ▸ k.isLt⟩
/-- Trip `k` of the second loop, from a number below eight. -/
def tr2 (k : Fin 8) : Fin k0_t2_loop.trips := ⟨k.val, trips2.symm ▸ k.isLt⟩

/-- The running sum before trip `k` of the first loop. -/
def carry (i : grid0.Coords) (x : Vec F S1x8x1x12544 .f32) : ℕ → FVec F S8x12544 .f32
  | 0 => k0_pay2
  | k + 1 => if h : k < 8 then k0_pay5 x (carry i x k) (weight i (tr1 ⟨k, h⟩)) (chunk x (tr1 ⟨k, h⟩)) else carry i x k

/-- What the first loop leaves in the scratch buffer: row `k` the exponentials of chunk `k`. -/
def scratch (i : grid0.Coords) (x : Vec F S1x8x1x12544 .f32) : Vec F S8x8x12544 .f32 :=
  fun y => k0_pay4 x (weight i (tr1 (y 0))) (chunk x (tr1 (y 0))) (fun | 0 => (0 : Fin 1) | 1 => y 1 | 2 => y 2)

/-- Row `k` of the scratch buffer, as the second loop's trip `k` loads it. -/
def scratchRow (i : grid0.Coords) (x : Vec F S1x8x1x12544 .f32) (k : Fin 8) : Vec F S1x8x12544 .f32 :=
  View.ld (scratch i x) (Rect.unit (s := S8x8x12544) (k0_off3 (tr2 k)) S1x8x12544.size (k0_off3_inb (tr2 k)))

/-- What the second loop leaves in the output block: chunk `k` from scratch row `k` and the whole sum. -/
def blockOut (i : grid0.Coords) (x : Vec F S1x8x1x12544 .f32) : Vec F S1x8x1x12544 .f32 :=
  fun y => k0_pay6 (carry i x 8) (scratchRow i x (y 1)) (fun | 0 => (0 : Fin 1) | 1 => (0 : Fin 1) | 2 => y 2 | 3 => y 3)

/-- `blockOut` at a place of output chunk `j`, from the place `z` in that chunk. -/
theorem blockOut_at (i : grid0.Coords) (x : Vec F S1x8x1x12544 .f32) (j : Fin 8) (y : S1x8x1x12544.Idx)
    (z : S1x1x1x12544.Idx) (hj : y 1 = j)
    (h : ∀ a : Fin 4, (z a).val = (![(y 0).val, 0, (y 2).val, (y 3).val] : Fin 4 → ℕ) a) :
    k0_pay6 (carry i x 8) (scratchRow i x j) z = blockOut i x y := by
  unfold blockOut
  rw [hj]
  have hz : z = fun | 0 => (0 : Fin 1) | 1 => (0 : Fin 1) | 2 => y 2 | 3 => y 3 := funext fun a => Fin.ext (by
    match a with
    | 0 => exact Nat.lt_one_iff.mp (z 0).isLt
    | 1 => exact Nat.lt_one_iff.mp (z 1).isLt
    | 2 => exact h 2
    | 3 => exact h 3)
  exact congrArg (k0_pay6 (carry i x 8) (scratchRow i x j)) hz

variable (𝒱 : Variants) (c : Dev nD) (bd : Option 𝒱.V) (i : grid0.Coords)
  (arg1 : Memref sig .tc .vmem S1x8x1x12544 .f32) (h1 : arg1.IsWhole)
  (arg2 : Memref sig .tc .vmem S1x8x1x12544 .f32) (h2 : arg2.IsWhole)
  (arg3 : Memref sig .tc .vmem S8x8x12544 .f32) (h3 : arg3.IsWhole)

/-- The state before trip `k` of the first loop: its carried value is the running sum, and its list of stored pieces
    is one piece for each trip before. -/
theorem st_eq (x : Vec F S1x8x1x12544 .f32) (k : ℕ) (hk : k ≤ 8) :
    (st_k0_t1 𝒱 c bd i arg1 h1 arg2 h2 arg3 h3 x (h1.unread x) k0_pay2 k).1 = carry i x k
    ∧ (∀ p ∈ (st_k0_t1 𝒱 c bd i arg1 h1 arg2 h2 arg3 h3 x (h1.unread x) k0_pay2 k).2, ∃ j : Fin 8,
        p = ⟨Rect.unit (s := S8x8x12544) (k0_off2 (tr1 j)) S1x8x12544.size (k0_off2_inb (tr1 j)),
          k0_pay4 x (weight i (tr1 j)) (chunk x (tr1 j))⟩)
    ∧ ∀ j : Fin 8, j.val < k →
        (⟨Rect.unit (s := S8x8x12544) (k0_off2 (tr1 j)) S1x8x12544.size (k0_off2_inb (tr1 j)),
          k0_pay4 x (weight i (tr1 j)) (chunk x (tr1 j))⟩ : View.Piece (Elt F) S8x8x12544 .f32)
          ∈ (st_k0_t1 𝒱 c bd i arg1 h1 arg2 h2 arg3 h3 x (h1.unread x) k0_pay2 k).2 := by
  induction k with
  | zero =>
    refine ⟨rfl, fun p hp => ?_, fun j hj => absurd hj (Nat.not_lt_zero _)⟩
    exact absurd hp List.not_mem_nil
  | succ k ih =>
    obtain ⟨e1, e2, e3⟩ := ih (by omega)
    have hk8 : k < 8 := by omega
    have hs := st_k0_t1_succ (F := F) 𝒱 c bd i arg1 h1 arg2 h2 arg3 h3 x (h1.unread x) k0_pay2 (tr1 ⟨k, hk8⟩)
    rw [show (tr1 ⟨k, hk8⟩).val = k from rfl, tripR_eq, tripL_eq, e1] at hs
    rw [hs]
    refine ⟨?_, fun p hp => ?_, fun j hj => ?_⟩
    · rw [carry, dif_pos hk8]
    · rcases List.mem_append.mp hp with hp | hp
      · exact ⟨⟨k, hk8⟩, List.mem_singleton.mp hp⟩
      · exact e2 p hp
    · by_cases hjk : j.val < k
      · exact List.mem_append_right _ (e3 j hjk)
      · have : j = ⟨k, hk8⟩ := Fin.ext (by show j.val = k; omega)
        subst this
        exact List.mem_append_left _ (List.mem_singleton.mpr rfl)

/-- After the first loop the scratch buffer reads as `scratch`, whatever it held before. -/
theorem read_scratch (x : Vec F S1x8x1x12544 .f32) (f : BufTy.Contents (Elt F) arg3.view.ty) :
    View.read (Elt F) arg3.view (arg3.view.writes (Elt F) f
      (st_k0_t1 𝒱 c bd i arg1 h1 arg2 h2 arg3 h3 x (h1.unread x) k0_pay2 8).2) = scratch i x := by
  obtain ⟨-, e2, e3⟩ := st_eq 𝒱 c bd i arg1 h1 arg2 h2 arg3 h3 x 8 le_rfl
  funext y
  refine View.read_writes_apply_of_pieces _ _ (scratch i x) _ (fun p hp z => ?_) y ⟨_, e3 (y 0) (y 0).isLt, ?_⟩
  · obtain ⟨j, rfl⟩ := e2 p hp
    have hz : ∀ a, ((Rect.unit (s := S8x8x12544) (k0_off2 (tr1 j)) S1x8x12544.size (k0_off2_inb (tr1 j))).emb z a).val
        = (![j.val, 0, 0] : Fin _ → ℕ) a + (z a).val := fun a =>
      (Rect.idx_unit_val _ _ _ z a).trans (congrArg (· + (z a).val) (congrFun (k0_off2_eq (tr1 j)) a))
    have h0 : (Rect.unit (s := S8x8x12544) (k0_off2 (tr1 j)) S1x8x12544.size (k0_off2_inb (tr1 j))).emb z 0 = j :=
      Fin.ext (by rw [hz 0]; show j.val + (z 0).val = j.val; have : (z 0).val < 1 := (z 0).isLt; omega)
    unfold scratch
    rw [h0]
    refine congrArg (k0_pay4 x (weight i (tr1 j)) (chunk x (tr1 j))) (funext fun a => Fin.ext ?_)
    match a with
    | 0 => show (z 0).val = 0; have : (z 0).val < 1 := (z 0).isLt; omega
    | 1 => exact ((hz 1).trans (Nat.zero_add _)).symm
    | 2 => exact ((hz 2).trans (Nat.zero_add _)).symm
  · refine (Rect.mem_set_unit (inb := k0_off2_inb (tr1 (y 0)))).mpr fun a => ?_
    rw [k0_off2_eq]
    match a with
    | 0 => show (y 0).val ≤ (y 0).val ∧ (y 0).val < (y 0).val + 1; omega
    | 1 => show 0 ≤ (y 1).val ∧ (y 1).val < 0 + 8; have : (y 1).val < 8 := (y 1).isLt; omega
    | 2 => show 0 ≤ (y 2).val ∧ (y 2).val < 0 + 12544; have : (y 2).val < 12544 := (y 2).isLt; omega

/-- The second loop's list of stored pieces: one for each trip before. -/
theorem pb_eq (x : Vec F S1x8x1x12544 .f32) (v18 : FVec F S8x12544 .f32) (X : BufTy.Contents (Elt F) arg3.view.ty)
    (hX : View.read (Elt F) arg3.view X = scratch i x) (k : ℕ) (hk : k ≤ 8) :
    (∀ p ∈ pb_k0_t2 𝒱 c bd i arg1 h1 arg2 h2 arg3 h3 v18 X k, ∃ j : Fin 8,
        p = ⟨Rect.unit (s := S1x8x1x12544) (k0_off4 (tr2 j)) S1x1x1x12544.size (k0_off4_inb (tr2 j)),
          k0_pay6 v18 (scratchRow i x j)⟩)
    ∧ ∀ j : Fin 8, j.val < k →
        (⟨Rect.unit (s := S1x8x1x12544) (k0_off4 (tr2 j)) S1x1x1x12544.size (k0_off4_inb (tr2 j)),
          k0_pay6 v18 (scratchRow i x j)⟩
            : View.Piece (Elt F) S1x8x1x12544 .f32)
          ∈ pb_k0_t2 𝒱 c bd i arg1 h1 arg2 h2 arg3 h3 v18 X k := by
  induction k with
  | zero => exact ⟨fun p hp => absurd hp List.not_mem_nil, fun j hj => absurd hj (Nat.not_lt_zero _)⟩
  | succ k ih =>
    obtain ⟨e2, e3⟩ := ih (by omega)
    have hk8 : k < 8 := by omega
    have hs := pb_k0_t2_succ (F := F) 𝒱 c bd i arg1 h1 arg2 h2 arg3 h3 v18 X (tr2 ⟨k, hk8⟩)
    rw [show (tr2 ⟨k, hk8⟩).val = k from rfl, trip2L_eq, hX] at hs
    rw [hs, show View.ld (scratch i x) (Rect.unit (s := S8x8x12544) (k0_off3 (tr2 ⟨k, hk8⟩)) S1x8x12544.size
      (k0_off3_inb (tr2 ⟨k, hk8⟩))) = scratchRow i x ⟨k, hk8⟩ from rfl]
    refine ⟨fun p hp => ?_, fun j hj => ?_⟩
    · rcases List.mem_append.mp hp with hp | hp
      · exact ⟨⟨k, hk8⟩, List.mem_singleton.mp hp⟩
      · exact e2 p hp
    · by_cases hjk : j.val < k
      · exact List.mem_append_right _ (e3 j hjk)
      · have : j = ⟨k, hk8⟩ := Fin.ext (by show j.val = k; omega)
        subst this
        exact List.mem_append_left _ (List.mem_singleton.mpr rfl)

/-- After both loops the output block reads as `blockOut`, whatever the scratch and output buffers held before. -/
theorem read_out (x : Vec F S1x8x1x12544 .f32) (f3 : BufTy.Contents (Elt F) arg3.view.ty)
    (f2 : BufTy.Contents (Elt F) arg2.view.ty) :
    View.read (Elt F) arg2.view (arg2.view.writes (Elt F) f2
      (pb_k0_t2 𝒱 c bd i arg1 h1 arg2 h2 arg3 h3
        (st_k0_t1 𝒱 c bd i arg1 h1 arg2 h2 arg3 h3 x (h1.unread x) k0_pay2 8).1
        (arg3.view.writes (Elt F) f3 (st_k0_t1 𝒱 c bd i arg1 h1 arg2 h2 arg3 h3 x (h1.unread x) k0_pay2 8).2) 8))
      = blockOut i x := by
  rw [(st_eq 𝒱 c bd i arg1 h1 arg2 h2 arg3 h3 x 8 le_rfl).1]
  obtain ⟨e2, e3⟩ := pb_eq 𝒱 c bd i arg1 h1 arg2 h2 arg3 h3 x (carry i x 8)
    (arg3.view.writes (Elt F) f3 (st_k0_t1 𝒱 c bd i arg1 h1 arg2 h2 arg3 h3 x (h1.unread x) k0_pay2 8).2)
    (read_scratch 𝒱 c bd i arg1 h1 arg2 h2 arg3 h3 x f3) 8 le_rfl
  funext y
  refine View.read_writes_apply_of_pieces _ _ (blockOut i x) _ (fun p hp z => ?_) y ⟨_, e3 (y 1) (y 1).isLt, ?_⟩
  · obtain ⟨j, rfl⟩ := e2 p hp
    have hz : ∀ a, ((Rect.unit (s := S1x8x1x12544) (k0_off4 (tr2 j)) S1x1x1x12544.size (k0_off4_inb (tr2 j))).emb z a).val
        = (![0, j.val, 0, 0] : Fin _ → ℕ) a + (z a).val := fun a =>
      (Rect.idx_unit_val _ _ _ z a).trans (congrArg (· + (z a).val) (congrFun (k0_off4_eq (tr2 j)) a))
    have h0 : (Rect.unit (s := S1x8x1x12544) (k0_off4 (tr2 j)) S1x1x1x12544.size (k0_off4_inb (tr2 j))).emb z 1 = j :=
      Fin.ext (by rw [hz 1]; show j.val + (z 1).val = j.val; have : (z 1).val < 1 := (z 1).isLt; omega)
    have key := blockOut_at i x j _ z h0
    generalize k0_pay6 (carry i x 8) (scratchRow i x j) = w at z key ⊢
    refine key fun a => ?_
    match a with
    | 0 => exact ((hz 0).trans (Nat.zero_add _)).symm
    | 1 => exact Nat.lt_one_iff.mp (z 1).isLt
    | 2 => exact ((hz 2).trans (Nat.zero_add _)).symm
    | 3 => exact ((hz 3).trans (Nat.zero_add _)).symm
  · refine (Rect.mem_set_unit (inb := k0_off4_inb (tr2 (y 1)))).mpr fun a => ?_
    rw [k0_off4_eq]
    match a with
    | 0 => show 0 ≤ (y 0).val ∧ (y 0).val < 0 + 1; have : (y 0).val < 1 := (y 0).isLt; omega
    | 1 => show (y 1).val ≤ (y 1).val ∧ (y 1).val < (y 1).val + 1; omega
    | 2 => show 0 ≤ (y 2).val ∧ (y 2).val < 0 + 1; have : (y 2).val < 1 := (y 2).isLt; omega
    | 3 => show 0 ≤ (y 3).val ∧ (y 3).val < 0 + 12544; have : (y 3).val < 12544 := (y 3).isLt; omega

end Cert.KernelIdeal.Val

end
-- ==== Proof.Kern.Run.lean ====
/- The kernel's run: from any memory with zero counters it ends, its argument unchanged and every counter at zero, and its
   output array is the blocks `blockOut` put together. The body is run once at a symbolic grid point; what it leaves in
   the output block is `blockOut` of the input block, whatever its scratch buffer held. The launch's set-up follows the
   generated one. -/
module

public import proofs.«01_k».proof.Proof.Kern.Block
public import proofs.«01_k».proof.Proof.Gen.KernelIdeal.Frame.Runs

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole staging buffers, the input's at `x0`, the others at anything: it leaves the input's as it was and
    `blockOut i x0` in the output's. -/
theorem body_run (c : Dev nD) (i : grid0.Coords) (arg1 : Memref sig .tc .vmem S1x8x1x12544 .f32) (harg1 : arg1.IsWhole)
    (arg2 : Memref sig .tc .vmem S1x8x1x12544 .f32) (harg2 : arg2.IsWhole)
    (arg3 : Memref sig .tc .vmem S8x8x12544 .f32) (harg3 : arg3.IsWhole) (x0 : Vec F S1x8x1x12544 .f32)
    (E : Set ℕ) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (blockOut i x0)
          ∗ (∃ d, owns (c : Thread nD τ) arg3 fullShare d)) -∗ K ⟨⟩))
      ⊢ wp frame (wpE (defs₀ (F := F)) Variants.none c none) E (cc0__body i arg1 harg1 arg2 harg2 arg3 harg3) K := by
  simp only [cc0__body_eq_skeleton]; unfold cc0__body_skel
  unfold owns
  iintro ⟨⟨%f0, %hf0, H0⟩, ⟨%d1, %f1, -, H1⟩, ⟨%ds0, %fs0, -, HS0⟩, Hk⟩
  obtain rfl := harg1.eq_unread hf0
  sl_exec
  sl_step
  iapply Hk
  isplitl [H0]
  · iexists _; isplitr; · ipureintro; exact harg1.read_unread _
    iexact H0
  isplitl [H1]
  · iexists _; isplitr; swap; · iexact H1
    ipureintro
    sl_unfold_words
    rw [View.readAt_eq_ld, harg1.read_unread, View.ld_unit_zero (by funext a; fin_cases a <;> rfl)]
    exact read_out _ _ _ _ _ _ _ _ _ _ _ _ _
  iexists _, _; isplitr; swap; · iexact HS0
  ipureintro; rfl

/-! ## The pipeline's proof data -/

/-- The proof data of the one pipeline on core `c`: the arrays as the region finds them (`V`); after the body at
    point `t` each input's buffer at its block and the outputs' at `blockOut` of the input block; the invariant
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (grid0.coords t) (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves `blockOut` of the input block in the output's buffer. -/
theorem after0_1 (c : Dev nD) (t : Fin cfg0.N) : (dats m 0 c).after 1 t = blockOut (grid0.coords t) (iblk m c 0 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the inputs' memrefs hold their blocks (`before0_W`); so the
    run applies; the invariant hands the body its scratch buffers at some contents (and the generator register) and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨HS0, Hg⟩, Ho, ⟨%d0, H0⟩, ⟨%d1, H1⟩⟩
  iapply (body_run c (grid0.coords t) _ _ _ _ _ _ (iblk m c 0 t) Set.univ _)
  isplitl [H0]; · iexact H0
  isplitl [H1]; · iexists _; iexact H1
  isplitl [HS0]; · iexact HS0
  iintro ⟨H0, H1, HS0⟩
  isplitl [HS0 Hg]
  · isplitl [HS0]
    · iexact HS0
    iexact Hg
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame claim: the argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Val

end
-- ==== Proof.Ref.Ops.lean ====
/- The reference program's @main as a list of its 301 host operations, in windows of at most thirty: the list is
   @main, every operation stays within the device's buffers, and none of them writes a fresh buffer. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later argument's type mentions, so `simp` cannot rewrite an operand where it stands; applied by
    name, the operands are plain arguments, which the window lemmas below rewrite before the name unfolds. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 301 (window `main_part0`). -/
abbrev ops_part0_0 : List (HloOp τ sig (Elt F)) :=
  [ nullary main_c (constantI S_ 32 1#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    unary main_v6 main_v7 ((extractStridedSlice S1 ![0] · slices_S2_S1_0) : (⟨S2, .i32⟩ : BufTy).Contents (Elt F) → (⟨S1, .i32⟩ : BufTy).Contents (Elt F)),
    reshape main_v7 main_v8 (rfl : (.i32 : EltTy) = .i32) shapeCasts_S1_S_,
    unary main_v6 main_v9 ((extractStridedSlice S1 ![1] · slices_S2_S1_1) : (⟨S2, .i32⟩ : BufTy).Contents (Elt F) → (⟨S1, .i32⟩ : BufTy).Contents (Elt F)),
    reshape main_v9 main_v10 (rfl : (.i32 : EltTy) = .i32) shapeCasts_S1_S_,
    nullary main_v11 (iotaInDim S32x8x100000 64 0),
    nullary main_v12 (iotaInDim S32x8x100000 64 1),
    nullary main_v13 (iotaInDim S32x8x100000 64 2),
    nullary main_c_2 (constantI S_ 64 800000#64),
    unary main_c_2 main_v14 (broadcastInDim S32x8x100000 ![] bcast_S_S32x8x100000 : (⟨S_, .i64⟩ : BufTy).Contents (Elt F) → (⟨S32x8x100000, .i64⟩ : BufTy).Contents (Elt F)),
    binary main_v14 main_v11 main_v15 (muli : (⟨S32x8x100000, .i64⟩ : BufTy).Contents (Elt F) → (⟨S32x8x100000, .i64⟩ : BufTy).Contents (Elt F) → (⟨S32x8x100000, .i64⟩ : BufTy).Contents (Elt F)),
    nullary main_c_3 (constantI S_ 64 100000#64),
    unary main_c_3 main_v16 (broadcastInDim S32x8x100000 ![] bcast_S_S32x8x100000 : (⟨S_, .i64⟩ : BufTy).Contents (Elt F) → (⟨S32x8x100000, .i64⟩ : BufTy).Contents (Elt F)),
    binary main_v16 main_v12 main_v17 (muli : (⟨S32x8x100000, .i64⟩ : BufTy).Contents (Elt F) → (⟨S32x8x100000, .i64⟩ : BufTy).Contents (Elt F) → (⟨S32x8x100000, .i64⟩ : BufTy).Contents (Elt F)),
    nullary main_c_4 (constantI S_ 64 1#64),
    unary main_c_4 main_v18 (broadcastInDim S32x8x100000 ![] bcast_S_S32x8x100000 : (⟨S_, .i64⟩ : BufTy).Contents (Elt F) → (⟨S32x8x100000, .i64⟩ : BufTy).Contents (Elt F)),
    binary main_v18 main_v13 main_v19 (muli : (⟨S32x8x100000, .i64⟩ : BufTy).Contents (Elt F) → (⟨S32x8x100000, .i64⟩ : BufTy).Contents (Elt F) → (⟨S32x8x100000, .i64⟩ : BufTy).Contents (Elt F)),
    binary main_v15 main_v17 main_v20 (addi : (⟨S32x8x100000, .i64⟩ : BufTy).Contents (Elt F) → (⟨S32x8x100000, .i64⟩ : BufTy).Contents (Elt F) → (⟨S32x8x100000, .i64⟩ : BufTy).Contents (Elt F)),
    binary main_v20 main_v19 main_v21 (addi : (⟨S32x8x100000, .i64⟩ : BufTy).Contents (Elt F) → (⟨S32x8x100000, .i64⟩ : BufTy).Contents (Elt F) → (⟨S32x8x100000, .i64⟩ : BufTy).Contents (Elt F)),
    nullary main_c_5 (constantI S_ 64 32#64),
    unary main_c_5 main_v22 (broadcastInDim S32x8x100000 ![] bcast_S_S32x8x100000 : (⟨S_, .i64⟩ : BufTy).Contents (Elt F) → (⟨S32x8x100000, .i64⟩ : BufTy).Contents (Elt F)) ]

/-- @main's operations 31 … 60 of 301 (window `main_part0`). -/
abbrev ops_part0_1 : List (HloOp τ sig (Elt F)) :=
  [ binary main_v21 main_v22 main_v23 (Host.shrui : (⟨S32x8x100000, .i64⟩ : BufTy).Contents (Elt F) → (⟨S32x8x100000, .i64⟩ : BufTy).Contents (Elt F) → (⟨S32x8x100000, .i64⟩ : BufTy).Contents (Elt F)),
    unary main_v21 main_v24 ((trunci 32 · natLt_32_64) : (⟨S32x8x100000, .i64⟩ : BufTy).Contents (Elt F) → (⟨S32x8x100000, .i32⟩ : BufTy).Contents (Elt F)),
    unary main_v23 main_v25 ((trunci 32 · natLt_32_64) : (⟨S32x8x100000, .i64⟩ : BufTy).Contents (Elt F) → (⟨S32x8x100000, .i32⟩ : BufTy).Contents (Elt F)),
    TRef.binary (TRef.of (T := ⟨S_, .i32⟩) main_v8) (TRef.of (T := ⟨S_, .i32⟩) main_v10) (TRef.of (T := ⟨S_, .i32⟩) main_call0_v0) xori,
    TRef.nullary (TRef.of (T := ⟨S_, .i32⟩) main_call0_c) (constantI S_ 32 466688986#32),
    TRef.binary (TRef.of (T := ⟨S_, .i32⟩) main_call0_v0) (TRef.of (T := ⟨S_, .i32⟩) main_call0_c) (TRef.of (T := ⟨S_, .i32⟩) main_call0_v1) xori,
    TRef.unary (TRef.of (T := ⟨S_, .i32⟩) main_v8) (TRef.of (T := ⟨S32x8x100000, .i32⟩) main_call0_v2) (broadcastInDim S32x8x100000 ![] bcast_S_S32x8x100000),
    TRef.binary (TRef.of (T := ⟨S32x8x100000, .i32⟩) main_v25) (TRef.of (T := ⟨S32x8x100000, .i32⟩) main_call0_v2) (TRef.of (T := ⟨S32x8x100000, .i32⟩) main_call0_v3) addi,
    TRef.unary (TRef.of (T := ⟨S_, .i32⟩) main_v10) (TRef.of (T := ⟨S32x8x100000, .i32⟩) main_call0_v4) (broadcastInDim S32x8x100000 ![] bcast_S_S32x8x100000),
    TRef.binary (TRef.of (T := ⟨S32x8x100000, .i32⟩) main_v24) (TRef.of (T := ⟨S32x8x100000, .i32⟩) main_call0_v4) (TRef.of (T := ⟨S32x8x100000, .i32⟩) main_call0_v5) addi,
    TRef.binary (TRef.of (T := ⟨S32x8x100000, .i32⟩) main_call0_v3) (TRef.of (T := ⟨S32x8x100000, .i32⟩) main_call0_v5) (TRef.of (T := ⟨S32x8x100000, .i32⟩) main_call0_v6) addi,
    TRef.nullary (TRef.of (T := ⟨S_, .i32⟩) main_call0_c_0) (constantI S_ 32 13#32),
    TRef.unary (TRef.of (T := ⟨S_, .i32⟩) main_call0_c_0) (TRef.of (T := ⟨S32x8x100000, .i32⟩) main_call0_v7) (broadcastInDim S32x8x100000 ![] bcast_S_S32x8x100000),
    TRef.binary (TRef.of (T := ⟨S32x8x100000, .i32⟩) main_call0_v5) (TRef.of (T := ⟨S32x8x100000, .i32⟩) main_call0_v7) (TRef.of (T := ⟨S32x8x100000, .i32⟩) main_call0_v8) Host.shli,
    TRef.nullary (TRef.of (T := ⟨S_, .i32⟩) main_call0_c_1) (constantI S_ 32 19#32),
    TRef.unary (TRef.of (T := ⟨S_, .i32⟩) main_call0_c_1) (TRef.of (T := ⟨S32x8x100000, .i32⟩) main_call0_v9) (broadcastInDim S32x8x100000 ![] bcast_S_S32x8x100000),
    TRef.binary (TRef.of (T := ⟨S32x8x100000, .i32⟩) main_call0_v5) (TRef.of (T := ⟨S32x8x100000, .i32⟩) main_call0_v9) (TRef.of (T := ⟨S32x8x100000, .i32⟩) main_call0_v10) Host.shrui,
    TRef.binary (TRef.of (T := ⟨S32x8x100000, .i32⟩) main_call0_v8) (TRef.of (T := ⟨S32x8x100000, .i32⟩) main_call0_v10) (TRef.of (T := ⟨S32x8x100000, .i32⟩) main_call0_v11) ori,
    TRef.binary (TRef.of (T := ⟨S32x8x100000, .i32⟩) main_call0_v6) (TRef.of (T := ⟨S32x8x100000, .i32⟩) main_call0_v11) (TRef.of (T := ⟨S32x8x100000, .i32⟩) main_call0_v12) xori,
    TRef.binary (TRef.of (T := ⟨S32x8x100000, .i32⟩) main_call0_v6) (TRef.of (T := ⟨S32x8x100000, .i32⟩) main_call0_v12) (TRef.of (T := ⟨S32x8x100000, .i32⟩) main_call0_v13) addi,
    TRef.nullary (TRef.of (T := ⟨S_, .i32⟩) main_call0_c_2) (constantI S_ 32 15#32),
    TRef.unary (TRef.of (T := ⟨S_, .i32⟩) main_call0_c_2) (TRef.of (T := ⟨S32x8x100000, .i32⟩) main_call0_v14) (broadcastInDim S32x8x100000 ![] bcast_S_S32x8x100000),
    TRef.binary (TRef.of (T := ⟨S32x8x100000, .i32⟩) main_call0_v12) (TRef.of (T := ⟨S32x8x100000, .i32⟩) main_call0_v14) (TRef.of (T := ⟨S32x8x100000, .i32⟩) main_call0_v15) Host.shli,
    TRef.nullary (TRef.of (T := ⟨S_, .i32⟩) main_call0_c_3) (constantI S_ 32 17#32),
    TRef.unary (TRef.of (T := ⟨S_, .i32⟩) main_call0_c_3) (TRef.of (T := ⟨S32x8x100000, .i32⟩) main_call0_v16) (broadcastInDim S32x8x100000 ![] bcast_S_S32x8x100000),
    TRef.binary (TRef.of (T := ⟨S32x8x100000, .i32⟩) main_call0_v12) (TRef.of (T := ⟨S32x8x100000, .i32⟩) main_call0_v16) (TRef.of (T := ⟨S32x8x100000, .i32⟩) main_call0_v17) Host.shrui,
    TRef.binary (TRef.of (T := ⟨S32x8x100000, .i32⟩) main_call0_v15) (TRef.of (T := ⟨S32x8x100000, .i32⟩) main_call0_v17) (TRef.of (T := ⟨S32x8x100000, .i32⟩) main_call0_v18) ori,
    TRef.binary (TRef.of (T := ⟨S32x8x100000, .i32⟩) main_call0_v13) (TRef.of (T := ⟨S32x8x100000, .i32⟩) main_call0_v18) (TRef.of (T := ⟨S32x8x100000, .i32⟩) main_call0_v19) xori,
    TRef.binary (TRef.of (T := ⟨S32x8x100000, .i32⟩) main_call0_v13) (TRef.of (T := ⟨S32x8x100000, .i32⟩) main_call0_v19) (TRef.of (T := ⟨S32x8x100000, .i32⟩) main_call0_v20) addi,
    TRef.nullary (TRef.of (T := ⟨S_, .i32⟩) main_call0_c_4) (constantI S_ 32 26#32) ]

/-- @main's operations 61 … 90 of 301 (window `main_part0`). -/
abbrev ops_part0_2 : List (HloOp τ sig (Elt F)) :=
  [ TRef.unary (TRef.of (T := ⟨S_, .i32⟩) main_call0_c_4) (TRef.of (T := ⟨S32x8x100000, .i32⟩) main_call0_v21) (broadcastInDim S32x8x100000 ![] bcast_S_S32x8x100000),
    TRef.binary (TRef.of (T := ⟨S32x8x100000, .i32⟩) main_call0_v19) (TRef.of (T := ⟨S32x8x100000, .i32⟩) main_call0_v21) (TRef.of (T := ⟨S32x8x100000, .i32⟩) main_call0_v22) Host.shli,
    TRef.nullary (TRef.of (T := ⟨S_, .i32⟩) main_call0_c_5) (constantI S_ 32 6#32),
    TRef.unary (TRef.of (T := ⟨S_, .i32⟩) main_call0_c_5) (TRef.of (T := ⟨S32x8x100000, .i32⟩) main_call0_v23) (broadcastInDim S32x8x100000 ![] bcast_S_S32x8x100000),
    TRef.binary (TRef.of (T := ⟨S32x8x100000, .i32⟩) main_call0_v19) (TRef.of (T := ⟨S32x8x100000, .i32⟩) main_call0_v23) (TRef.of (T := ⟨S32x8x100000, .i32⟩) main_call0_v24) Host.shrui,
    TRef.binary (TRef.of (T := ⟨S32x8x100000, .i32⟩) main_call0_v22) (TRef.of (T := ⟨S32x8x100000, .i32⟩) main_call0_v24) (TRef.of (T := ⟨S32x8x100000, .i32⟩) main_call0_v25) ori,
    TRef.binary (TRef.of (T := ⟨S32x8x100000, .i32⟩) main_call0_v20) (TRef.of (T := ⟨S32x8x100000, .i32⟩) main_call0_v25) (TRef.of (T := ⟨S32x8x100000, .i32⟩) main_call0_v26) xori,
    TRef.binary (TRef.of (T := ⟨S32x8x100000, .i32⟩) main_call0_v20) (TRef.of (T := ⟨S32x8x100000, .i32⟩) main_call0_v26) (TRef.of (T := ⟨S32x8x100000, .i32⟩) main_call0_v27) addi,
    TRef.nullary (TRef.of (T := ⟨S_, .i32⟩) main_call0_c_6) (constantI S_ 32 6#32),
    TRef.unary (TRef.of (T := ⟨S_, .i32⟩) main_call0_c_6) (TRef.of (T := ⟨S32x8x100000, .i32⟩) main_call0_v28) (broadcastInDim S32x8x100000 ![] bcast_S_S32x8x100000),
    TRef.binary (TRef.of (T := ⟨S32x8x100000, .i32⟩) main_call0_v26) (TRef.of (T := ⟨S32x8x100000, .i32⟩) main_call0_v28) (TRef.of (T := ⟨S32x8x100000, .i32⟩) main_call0_v29) Host.shli,
    TRef.nullary (TRef.of (T := ⟨S_, .i32⟩) main_call0_c_7) (constantI S_ 32 26#32),
    TRef.unary (TRef.of (T := ⟨S_, .i32⟩) main_call0_c_7) (TRef.of (T := ⟨S32x8x100000, .i32⟩) main_call0_v30) (broadcastInDim S32x8x100000 ![] bcast_S_S32x8x100000),
    TRef.binary (TRef.of (T := ⟨S32x8x100000, .i32⟩) main_call0_v26) (TRef.of (T := ⟨S32x8x100000, .i32⟩) main_call0_v30) (TRef.of (T := ⟨S32x8x100000, .i32⟩) main_call0_v31) Host.shrui,
    TRef.binary (TRef.of (T := ⟨S32x8x100000, .i32⟩) main_call0_v29) (TRef.of (T := ⟨S32x8x100000, .i32⟩) main_call0_v31) (TRef.of (T := ⟨S32x8x100000, .i32⟩) main_call0_v32) ori,
    TRef.binary (TRef.of (T := ⟨S32x8x100000, .i32⟩) main_call0_v27) (TRef.of (T := ⟨S32x8x100000, .i32⟩) main_call0_v32) (TRef.of (T := ⟨S32x8x100000, .i32⟩) main_call0_v33) xori,
    TRef.unary (TRef.of (T := ⟨S_, .i32⟩) main_v10) (TRef.of (T := ⟨S32x8x100000, .i32⟩) main_call0_v34) (broadcastInDim S32x8x100000 ![] bcast_S_S32x8x100000),
    TRef.binary (TRef.of (T := ⟨S32x8x100000, .i32⟩) main_call0_v27) (TRef.of (T := ⟨S32x8x100000, .i32⟩) main_call0_v34) (TRef.of (T := ⟨S32x8x100000, .i32⟩) main_call0_v35) addi,
    TRef.unary (TRef.of (T := ⟨S_, .i32⟩) main_call0_v1) (TRef.of (T := ⟨S32x8x100000, .i32⟩) main_call0_v36) (broadcastInDim S32x8x100000 ![] bcast_S_S32x8x100000),
    TRef.binary (TRef.of (T := ⟨S32x8x100000, .i32⟩) main_call0_v33) (TRef.of (T := ⟨S32x8x100000, .i32⟩) main_call0_v36) (TRef.of (T := ⟨S32x8x100000, .i32⟩) main_call0_v37) addi,
    TRef.nullary (TRef.of (T := ⟨S_, .i32⟩) main_call0_c_8) (constantI S_ 32 1#32),
    TRef.unary (TRef.of (T := ⟨S_, .i32⟩) main_call0_c_8) (TRef.of (T := ⟨S32x8x100000, .i32⟩) main_call0_v38) (broadcastInDim S32x8x100000 ![] bcast_S_S32x8x100000),
    TRef.binary (TRef.of (T := ⟨S32x8x100000, .i32⟩) main_call0_v37) (TRef.of (T := ⟨S32x8x100000, .i32⟩) main_call0_v38) (TRef.of (T := ⟨S32x8x100000, .i32⟩) main_call0_v39) addi,
    TRef.binary (TRef.of (T := ⟨S32x8x100000, .i32⟩) main_call0_v35) (TRef.of (T := ⟨S32x8x100000, .i32⟩) main_call0_v39) (TRef.of (T := ⟨S32x8x100000, .i32⟩) main_call0_v40) addi,
    TRef.nullary (TRef.of (T := ⟨S_, .i32⟩) main_call0_c_9) (constantI S_ 32 17#32),
    TRef.unary (TRef.of (T := ⟨S_, .i32⟩) main_call0_c_9) (TRef.of (T := ⟨S32x8x100000, .i32⟩) main_call0_v41) (broadcastInDim S32x8x100000 ![] bcast_S_S32x8x100000),
    TRef.binary (TRef.of (T := ⟨S32x8x100000, .i32⟩) main_call0_v39) (TRef.of (T := ⟨S32x8x100000, .i32⟩) main_call0_v41) (TRef.of (T := ⟨S32x8x100000, .i32⟩) main_call0_v42) Host.shli,
    TRef.nullary (TRef.of (T := ⟨S_, .i32⟩) main_call0_c_10) (constantI S_ 32 15#32),
    TRef.unary (TRef.of (T := ⟨S_, .i32⟩) main_call0_c_10) (TRef.of (T := ⟨S32x8x100000, .i32⟩) main_call0_v43) (broadcastInDim S32x8x100000 ![] bcast_S_S32x8x100000),
    TRef.binary (TRef.of (T := ⟨S32x8x100000, .i32⟩) main_call0_v39) (TRef.of (T := ⟨S32x8x100000, .i32⟩) main_call0_v43) (TRef.of (T := ⟨S32x8x100000, .i32⟩) main_call0_v44) Host.shrui ]

/-- @main's operations 91 … 120 of 301 (window `main_part0`). -/
abbrev ops_part0_3 : List (HloOp τ sig (Elt F)) :=
  [ TRef.binary (TRef.of (T := ⟨S32x8x100000, .i32⟩) main_call0_v42) (TRef.of (T := ⟨S32x8x100000, .i32⟩) main_call0_v44) (TRef.of (T := ⟨S32x8x100000, .i32⟩) main_call0_v45) ori,
    TRef.binary (TRef.of (T := ⟨S32x8x100000, .i32⟩) main_call0_v40) (TRef.of (T := ⟨S32x8x100000, .i32⟩) main_call0_v45) (TRef.of (T := ⟨S32x8x100000, .i32⟩) main_call0_v46) xori,
    TRef.binary (TRef.of (T := ⟨S32x8x100000, .i32⟩) main_call0_v40) (TRef.of (T := ⟨S32x8x100000, .i32⟩) main_call0_v46) (TRef.of (T := ⟨S32x8x100000, .i32⟩) main_call0_v47) addi,
    TRef.nullary (TRef.of (T := ⟨S_, .i32⟩) main_call0_c_11) (constantI S_ 32 29#32),
    TRef.unary (TRef.of (T := ⟨S_, .i32⟩) main_call0_c_11) (TRef.of (T := ⟨S32x8x100000, .i32⟩) main_call0_v48) (broadcastInDim S32x8x100000 ![] bcast_S_S32x8x100000),
    TRef.binary (TRef.of (T := ⟨S32x8x100000, .i32⟩) main_call0_v46) (TRef.of (T := ⟨S32x8x100000, .i32⟩) main_call0_v48) (TRef.of (T := ⟨S32x8x100000, .i32⟩) main_call0_v49) Host.shli,
    TRef.nullary (TRef.of (T := ⟨S_, .i32⟩) main_call0_c_12) (constantI S_ 32 3#32),
    TRef.unary (TRef.of (T := ⟨S_, .i32⟩) main_call0_c_12) (TRef.of (T := ⟨S32x8x100000, .i32⟩) main_call0_v50) (broadcastInDim S32x8x100000 ![] bcast_S_S32x8x100000),
    TRef.binary (TRef.of (T := ⟨S32x8x100000, .i32⟩) main_call0_v46) (TRef.of (T := ⟨S32x8x100000, .i32⟩) main_call0_v50) (TRef.of (T := ⟨S32x8x100000, .i32⟩) main_call0_v51) Host.shrui,
    TRef.binary (TRef.of (T := ⟨S32x8x100000, .i32⟩) main_call0_v49) (TRef.of (T := ⟨S32x8x100000, .i32⟩) main_call0_v51) (TRef.of (T := ⟨S32x8x100000, .i32⟩) main_call0_v52) ori,
    TRef.binary (TRef.of (T := ⟨S32x8x100000, .i32⟩) main_call0_v47) (TRef.of (T := ⟨S32x8x100000, .i32⟩) main_call0_v52) (TRef.of (T := ⟨S32x8x100000, .i32⟩) main_call0_v53) xori,
    TRef.binary (TRef.of (T := ⟨S32x8x100000, .i32⟩) main_call0_v47) (TRef.of (T := ⟨S32x8x100000, .i32⟩) main_call0_v53) (TRef.of (T := ⟨S32x8x100000, .i32⟩) main_call0_v54) addi,
    TRef.nullary (TRef.of (T := ⟨S_, .i32⟩) main_call0_c_13) (constantI S_ 32 16#32),
    TRef.unary (TRef.of (T := ⟨S_, .i32⟩) main_call0_c_13) (TRef.of (T := ⟨S32x8x100000, .i32⟩) main_call0_v55) (broadcastInDim S32x8x100000 ![] bcast_S_S32x8x100000),
    TRef.binary (TRef.of (T := ⟨S32x8x100000, .i32⟩) main_call0_v53) (TRef.of (T := ⟨S32x8x100000, .i32⟩) main_call0_v55) (TRef.of (T := ⟨S32x8x100000, .i32⟩) main_call0_v56) Host.shli,
    TRef.nullary (TRef.of (T := ⟨S_, .i32⟩) main_call0_c_14) (constantI S_ 32 16#32),
    TRef.unary (TRef.of (T := ⟨S_, .i32⟩) main_call0_c_14) (TRef.of (T := ⟨S32x8x100000, .i32⟩) main_call0_v57) (broadcastInDim S32x8x100000 ![] bcast_S_S32x8x100000),
    TRef.binary (TRef.of (T := ⟨S32x8x100000, .i32⟩) main_call0_v53) (TRef.of (T := ⟨S32x8x100000, .i32⟩) main_call0_v57) (TRef.of (T := ⟨S32x8x100000, .i32⟩) main_call0_v58) Host.shrui,
    TRef.binary (TRef.of (T := ⟨S32x8x100000, .i32⟩) main_call0_v56) (TRef.of (T := ⟨S32x8x100000, .i32⟩) main_call0_v58) (TRef.of (T := ⟨S32x8x100000, .i32⟩) main_call0_v59) ori,
    TRef.binary (TRef.of (T := ⟨S32x8x100000, .i32⟩) main_call0_v54) (TRef.of (T := ⟨S32x8x100000, .i32⟩) main_call0_v59) (TRef.of (T := ⟨S32x8x100000, .i32⟩) main_call0_v60) xori,
    TRef.binary (TRef.of (T := ⟨S32x8x100000, .i32⟩) main_call0_v54) (TRef.of (T := ⟨S32x8x100000, .i32⟩) main_call0_v60) (TRef.of (T := ⟨S32x8x100000, .i32⟩) main_call0_v61) addi,
    TRef.nullary (TRef.of (T := ⟨S_, .i32⟩) main_call0_c_15) (constantI S_ 32 24#32),
    TRef.unary (TRef.of (T := ⟨S_, .i32⟩) main_call0_c_15) (TRef.of (T := ⟨S32x8x100000, .i32⟩) main_call0_v62) (broadcastInDim S32x8x100000 ![] bcast_S_S32x8x100000),
    TRef.binary (TRef.of (T := ⟨S32x8x100000, .i32⟩) main_call0_v60) (TRef.of (T := ⟨S32x8x100000, .i32⟩) main_call0_v62) (TRef.of (T := ⟨S32x8x100000, .i32⟩) main_call0_v63) Host.shli,
    TRef.nullary (TRef.of (T := ⟨S_, .i32⟩) main_call0_c_16) (constantI S_ 32 8#32),
    TRef.unary (TRef.of (T := ⟨S_, .i32⟩) main_call0_c_16) (TRef.of (T := ⟨S32x8x100000, .i32⟩) main_call0_v64) (broadcastInDim S32x8x100000 ![] bcast_S_S32x8x100000),
    TRef.binary (TRef.of (T := ⟨S32x8x100000, .i32⟩) main_call0_v60) (TRef.of (T := ⟨S32x8x100000, .i32⟩) main_call0_v64) (TRef.of (T := ⟨S32x8x100000, .i32⟩) main_call0_v65) Host.shrui,
    TRef.binary (TRef.of (T := ⟨S32x8x100000, .i32⟩) main_call0_v63) (TRef.of (T := ⟨S32x8x100000, .i32⟩) main_call0_v65) (TRef.of (T := ⟨S32x8x100000, .i32⟩) main_call0_v66) ori,
    TRef.binary (TRef.of (T := ⟨S32x8x100000, .i32⟩) main_call0_v61) (TRef.of (T := ⟨S32x8x100000, .i32⟩) main_call0_v66) (TRef.of (T := ⟨S32x8x100000, .i32⟩) main_call0_v67) xori,
    TRef.unary (TRef.of (T := ⟨S_, .i32⟩) main_call0_v1) (TRef.of (T := ⟨S32x8x100000, .i32⟩) main_call0_v68) (broadcastInDim S32x8x100000 ![] bcast_S_S32x8x100000) ]

/-- @main's operations 121 … 150 of 301 (window `main_part0`). -/
abbrev ops_part0_4 : List (HloOp τ sig (Elt F)) :=
  [ TRef.binary (TRef.of (T := ⟨S32x8x100000, .i32⟩) main_call0_v61) (TRef.of (T := ⟨S32x8x100000, .i32⟩) main_call0_v68) (TRef.of (T := ⟨S32x8x100000, .i32⟩) main_call0_v69) addi,
    TRef.unary (TRef.of (T := ⟨S_, .i32⟩) main_v8) (TRef.of (T := ⟨S32x8x100000, .i32⟩) main_call0_v70) (broadcastInDim S32x8x100000 ![] bcast_S_S32x8x100000),
    TRef.binary (TRef.of (T := ⟨S32x8x100000, .i32⟩) main_call0_v67) (TRef.of (T := ⟨S32x8x100000, .i32⟩) main_call0_v70) (TRef.of (T := ⟨S32x8x100000, .i32⟩) main_call0_v71) addi,
    TRef.nullary (TRef.of (T := ⟨S_, .i32⟩) main_call0_c_17) (constantI S_ 32 2#32),
    TRef.unary (TRef.of (T := ⟨S_, .i32⟩) main_call0_c_17) (TRef.of (T := ⟨S32x8x100000, .i32⟩) main_call0_v72) (broadcastInDim S32x8x100000 ![] bcast_S_S32x8x100000),
    TRef.binary (TRef.of (T := ⟨S32x8x100000, .i32⟩) main_call0_v71) (TRef.of (T := ⟨S32x8x100000, .i32⟩) main_call0_v72) (TRef.of (T := ⟨S32x8x100000, .i32⟩) main_call0_v73) addi,
    TRef.binary (TRef.of (T := ⟨S32x8x100000, .i32⟩) main_call0_v69) (TRef.of (T := ⟨S32x8x100000, .i32⟩) main_call0_v73) (TRef.of (T := ⟨S32x8x100000, .i32⟩) main_call0_v74) addi,
    TRef.nullary (TRef.of (T := ⟨S_, .i32⟩) main_call0_c_18) (constantI S_ 32 13#32),
    TRef.unary (TRef.of (T := ⟨S_, .i32⟩) main_call0_c_18) (TRef.of (T := ⟨S32x8x100000, .i32⟩) main_call0_v75) (broadcastInDim S32x8x100000 ![] bcast_S_S32x8x100000),
    TRef.binary (TRef.of (T := ⟨S32x8x100000, .i32⟩) main_call0_v73) (TRef.of (T := ⟨S32x8x100000, .i32⟩) main_call0_v75) (TRef.of (T := ⟨S32x8x100000, .i32⟩) main_call0_v76) Host.shli,
    TRef.nullary (TRef.of (T := ⟨S_, .i32⟩) main_call0_c_19) (constantI S_ 32 19#32),
    TRef.unary (TRef.of (T := ⟨S_, .i32⟩) main_call0_c_19) (TRef.of (T := ⟨S32x8x100000, .i32⟩) main_call0_v77) (broadcastInDim S32x8x100000 ![] bcast_S_S32x8x100000),
    TRef.binary (TRef.of (T := ⟨S32x8x100000, .i32⟩) main_call0_v73) (TRef.of (T := ⟨S32x8x100000, .i32⟩) main_call0_v77) (TRef.of (T := ⟨S32x8x100000, .i32⟩) main_call0_v78) Host.shrui,
    TRef.binary (TRef.of (T := ⟨S32x8x100000, .i32⟩) main_call0_v76) (TRef.of (T := ⟨S32x8x100000, .i32⟩) main_call0_v78) (TRef.of (T := ⟨S32x8x100000, .i32⟩) main_call0_v79) ori,
    TRef.binary (TRef.of (T := ⟨S32x8x100000, .i32⟩) main_call0_v74) (TRef.of (T := ⟨S32x8x100000, .i32⟩) main_call0_v79) (TRef.of (T := ⟨S32x8x100000, .i32⟩) main_call0_v80) xori,
    TRef.binary (TRef.of (T := ⟨S32x8x100000, .i32⟩) main_call0_v74) (TRef.of (T := ⟨S32x8x100000, .i32⟩) main_call0_v80) (TRef.of (T := ⟨S32x8x100000, .i32⟩) main_call0_v81) addi,
    TRef.nullary (TRef.of (T := ⟨S_, .i32⟩) main_call0_c_20) (constantI S_ 32 15#32),
    TRef.unary (TRef.of (T := ⟨S_, .i32⟩) main_call0_c_20) (TRef.of (T := ⟨S32x8x100000, .i32⟩) main_call0_v82) (broadcastInDim S32x8x100000 ![] bcast_S_S32x8x100000),
    TRef.binary (TRef.of (T := ⟨S32x8x100000, .i32⟩) main_call0_v80) (TRef.of (T := ⟨S32x8x100000, .i32⟩) main_call0_v82) (TRef.of (T := ⟨S32x8x100000, .i32⟩) main_call0_v83) Host.shli,
    TRef.nullary (TRef.of (T := ⟨S_, .i32⟩) main_call0_c_21) (constantI S_ 32 17#32),
    TRef.unary (TRef.of (T := ⟨S_, .i32⟩) main_call0_c_21) (TRef.of (T := ⟨S32x8x100000, .i32⟩) main_call0_v84) (broadcastInDim S32x8x100000 ![] bcast_S_S32x8x100000),
    TRef.binary (TRef.of (T := ⟨S32x8x100000, .i32⟩) main_call0_v80) (TRef.of (T := ⟨S32x8x100000, .i32⟩) main_call0_v84) (TRef.of (T := ⟨S32x8x100000, .i32⟩) main_call0_v85) Host.shrui,
    TRef.binary (TRef.of (T := ⟨S32x8x100000, .i32⟩) main_call0_v83) (TRef.of (T := ⟨S32x8x100000, .i32⟩) main_call0_v85) (TRef.of (T := ⟨S32x8x100000, .i32⟩) main_call0_v86) ori,
    TRef.binary (TRef.of (T := ⟨S32x8x100000, .i32⟩) main_call0_v81) (TRef.of (T := ⟨S32x8x100000, .i32⟩) main_call0_v86) (TRef.of (T := ⟨S32x8x100000, .i32⟩) main_call0_v87) xori,
    TRef.binary (TRef.of (T := ⟨S32x8x100000, .i32⟩) main_call0_v81) (TRef.of (T := ⟨S32x8x100000, .i32⟩) main_call0_v87) (TRef.of (T := ⟨S32x8x100000, .i32⟩) main_call0_v88) addi,
    TRef.nullary (TRef.of (T := ⟨S_, .i32⟩) main_call0_c_22) (constantI S_ 32 26#32),
    TRef.unary (TRef.of (T := ⟨S_, .i32⟩) main_call0_c_22) (TRef.of (T := ⟨S32x8x100000, .i32⟩) main_call0_v89) (broadcastInDim S32x8x100000 ![] bcast_S_S32x8x100000),
    TRef.binary (TRef.of (T := ⟨S32x8x100000, .i32⟩) main_call0_v87) (TRef.of (T := ⟨S32x8x100000, .i32⟩) main_call0_v89) (TRef.of (T := ⟨S32x8x100000, .i32⟩) main_call0_v90) Host.shli,
    TRef.nullary (TRef.of (T := ⟨S_, .i32⟩) main_call0_c_23) (constantI S_ 32 6#32),
    TRef.unary (TRef.of (T := ⟨S_, .i32⟩) main_call0_c_23) (TRef.of (T := ⟨S32x8x100000, .i32⟩) main_call0_v91) (broadcastInDim S32x8x100000 ![] bcast_S_S32x8x100000) ]

/-- @main's operations 151 … 180 of 301 (window `main_part0`). -/
abbrev ops_part0_5 : List (HloOp τ sig (Elt F)) :=
  [ TRef.binary (TRef.of (T := ⟨S32x8x100000, .i32⟩) main_call0_v87) (TRef.of (T := ⟨S32x8x100000, .i32⟩) main_call0_v91) (TRef.of (T := ⟨S32x8x100000, .i32⟩) main_call0_v92) Host.shrui,
    TRef.binary (TRef.of (T := ⟨S32x8x100000, .i32⟩) main_call0_v90) (TRef.of (T := ⟨S32x8x100000, .i32⟩) main_call0_v92) (TRef.of (T := ⟨S32x8x100000, .i32⟩) main_call0_v93) ori,
    TRef.binary (TRef.of (T := ⟨S32x8x100000, .i32⟩) main_call0_v88) (TRef.of (T := ⟨S32x8x100000, .i32⟩) main_call0_v93) (TRef.of (T := ⟨S32x8x100000, .i32⟩) main_call0_v94) xori,
    TRef.binary (TRef.of (T := ⟨S32x8x100000, .i32⟩) main_call0_v88) (TRef.of (T := ⟨S32x8x100000, .i32⟩) main_call0_v94) (TRef.of (T := ⟨S32x8x100000, .i32⟩) main_call0_v95) addi,
    TRef.nullary (TRef.of (T := ⟨S_, .i32⟩) main_call0_c_24) (constantI S_ 32 6#32),
    TRef.unary (TRef.of (T := ⟨S_, .i32⟩) main_call0_c_24) (TRef.of (T := ⟨S32x8x100000, .i32⟩) main_call0_v96) (broadcastInDim S32x8x100000 ![] bcast_S_S32x8x100000),
    TRef.binary (TRef.of (T := ⟨S32x8x100000, .i32⟩) main_call0_v94) (TRef.of (T := ⟨S32x8x100000, .i32⟩) main_call0_v96) (TRef.of (T := ⟨S32x8x100000, .i32⟩) main_call0_v97) Host.shli,
    TRef.nullary (TRef.of (T := ⟨S_, .i32⟩) main_call0_c_25) (constantI S_ 32 26#32),
    TRef.unary (TRef.of (T := ⟨S_, .i32⟩) main_call0_c_25) (TRef.of (T := ⟨S32x8x100000, .i32⟩) main_call0_v98) (broadcastInDim S32x8x100000 ![] bcast_S_S32x8x100000),
    TRef.binary (TRef.of (T := ⟨S32x8x100000, .i32⟩) main_call0_v94) (TRef.of (T := ⟨S32x8x100000, .i32⟩) main_call0_v98) (TRef.of (T := ⟨S32x8x100000, .i32⟩) main_call0_v99) Host.shrui,
    TRef.binary (TRef.of (T := ⟨S32x8x100000, .i32⟩) main_call0_v97) (TRef.of (T := ⟨S32x8x100000, .i32⟩) main_call0_v99) (TRef.of (T := ⟨S32x8x100000, .i32⟩) main_call0_v100) ori,
    TRef.binary (TRef.of (T := ⟨S32x8x100000, .i32⟩) main_call0_v95) (TRef.of (T := ⟨S32x8x100000, .i32⟩) main_call0_v100) (TRef.of (T := ⟨S32x8x100000, .i32⟩) main_call0_v101) xori,
    TRef.unary (TRef.of (T := ⟨S_, .i32⟩) main_v8) (TRef.of (T := ⟨S32x8x100000, .i32⟩) main_call0_v102) (broadcastInDim S32x8x100000 ![] bcast_S_S32x8x100000),
    TRef.binary (TRef.of (T := ⟨S32x8x100000, .i32⟩) main_call0_v95) (TRef.of (T := ⟨S32x8x100000, .i32⟩) main_call0_v102) (TRef.of (T := ⟨S32x8x100000, .i32⟩) main_call0_v103) addi,
    TRef.unary (TRef.of (T := ⟨S_, .i32⟩) main_v10) (TRef.of (T := ⟨S32x8x100000, .i32⟩) main_call0_v104) (broadcastInDim S32x8x100000 ![] bcast_S_S32x8x100000),
    TRef.binary (TRef.of (T := ⟨S32x8x100000, .i32⟩) main_call0_v101) (TRef.of (T := ⟨S32x8x100000, .i32⟩) main_call0_v104) (TRef.of (T := ⟨S32x8x100000, .i32⟩) main_call0_v105) addi,
    TRef.nullary (TRef.of (T := ⟨S_, .i32⟩) main_call0_c_26) (constantI S_ 32 3#32),
    TRef.unary (TRef.of (T := ⟨S_, .i32⟩) main_call0_c_26) (TRef.of (T := ⟨S32x8x100000, .i32⟩) main_call0_v106) (broadcastInDim S32x8x100000 ![] bcast_S_S32x8x100000),
    TRef.binary (TRef.of (T := ⟨S32x8x100000, .i32⟩) main_call0_v105) (TRef.of (T := ⟨S32x8x100000, .i32⟩) main_call0_v106) (TRef.of (T := ⟨S32x8x100000, .i32⟩) main_call0_v107) addi,
    TRef.binary (TRef.of (T := ⟨S32x8x100000, .i32⟩) main_call0_v103) (TRef.of (T := ⟨S32x8x100000, .i32⟩) main_call0_v107) (TRef.of (T := ⟨S32x8x100000, .i32⟩) main_call0_v108) addi,
    TRef.nullary (TRef.of (T := ⟨S_, .i32⟩) main_call0_c_27) (constantI S_ 32 17#32),
    TRef.unary (TRef.of (T := ⟨S_, .i32⟩) main_call0_c_27) (TRef.of (T := ⟨S32x8x100000, .i32⟩) main_call0_v109) (broadcastInDim S32x8x100000 ![] bcast_S_S32x8x100000),
    TRef.binary (TRef.of (T := ⟨S32x8x100000, .i32⟩) main_call0_v107) (TRef.of (T := ⟨S32x8x100000, .i32⟩) main_call0_v109) (TRef.of (T := ⟨S32x8x100000, .i32⟩) main_call0_v110) Host.shli,
    TRef.nullary (TRef.of (T := ⟨S_, .i32⟩) main_call0_c_28) (constantI S_ 32 15#32),
    TRef.unary (TRef.of (T := ⟨S_, .i32⟩) main_call0_c_28) (TRef.of (T := ⟨S32x8x100000, .i32⟩) main_call0_v111) (broadcastInDim S32x8x100000 ![] bcast_S_S32x8x100000),
    TRef.binary (TRef.of (T := ⟨S32x8x100000, .i32⟩) main_call0_v107) (TRef.of (T := ⟨S32x8x100000, .i32⟩) main_call0_v111) (TRef.of (T := ⟨S32x8x100000, .i32⟩) main_call0_v112) Host.shrui,
    TRef.binary (TRef.of (T := ⟨S32x8x100000, .i32⟩) main_call0_v110) (TRef.of (T := ⟨S32x8x100000, .i32⟩) main_call0_v112) (TRef.of (T := ⟨S32x8x100000, .i32⟩) main_call0_v113) ori,
    TRef.binary (TRef.of (T := ⟨S32x8x100000, .i32⟩) main_call0_v108) (TRef.of (T := ⟨S32x8x100000, .i32⟩) main_call0_v113) (TRef.of (T := ⟨S32x8x100000, .i32⟩) main_call0_v114) xori,
    TRef.binary (TRef.of (T := ⟨S32x8x100000, .i32⟩) main_call0_v108) (TRef.of (T := ⟨S32x8x100000, .i32⟩) main_call0_v114) (TRef.of (T := ⟨S32x8x100000, .i32⟩) main_call0_v115) addi,
    TRef.nullary (TRef.of (T := ⟨S_, .i32⟩) main_call0_c_29) (constantI S_ 32 29#32) ]

/-- @main's operations 181 … 210 of 301 (window `main_part0`). -/
abbrev ops_part0_6 : List (HloOp τ sig (Elt F)) :=
  [ TRef.unary (TRef.of (T := ⟨S_, .i32⟩) main_call0_c_29) (TRef.of (T := ⟨S32x8x100000, .i32⟩) main_call0_v116) (broadcastInDim S32x8x100000 ![] bcast_S_S32x8x100000),
    TRef.binary (TRef.of (T := ⟨S32x8x100000, .i32⟩) main_call0_v114) (TRef.of (T := ⟨S32x8x100000, .i32⟩) main_call0_v116) (TRef.of (T := ⟨S32x8x100000, .i32⟩) main_call0_v117) Host.shli,
    TRef.nullary (TRef.of (T := ⟨S_, .i32⟩) main_call0_c_30) (constantI S_ 32 3#32),
    TRef.unary (TRef.of (T := ⟨S_, .i32⟩) main_call0_c_30) (TRef.of (T := ⟨S32x8x100000, .i32⟩) main_call0_v118) (broadcastInDim S32x8x100000 ![] bcast_S_S32x8x100000),
    TRef.binary (TRef.of (T := ⟨S32x8x100000, .i32⟩) main_call0_v114) (TRef.of (T := ⟨S32x8x100000, .i32⟩) main_call0_v118) (TRef.of (T := ⟨S32x8x100000, .i32⟩) main_call0_v119) Host.shrui,
    TRef.binary (TRef.of (T := ⟨S32x8x100000, .i32⟩) main_call0_v117) (TRef.of (T := ⟨S32x8x100000, .i32⟩) main_call0_v119) (TRef.of (T := ⟨S32x8x100000, .i32⟩) main_call0_v120) ori,
    TRef.binary (TRef.of (T := ⟨S32x8x100000, .i32⟩) main_call0_v115) (TRef.of (T := ⟨S32x8x100000, .i32⟩) main_call0_v120) (TRef.of (T := ⟨S32x8x100000, .i32⟩) main_call0_v121) xori,
    TRef.binary (TRef.of (T := ⟨S32x8x100000, .i32⟩) main_call0_v115) (TRef.of (T := ⟨S32x8x100000, .i32⟩) main_call0_v121) (TRef.of (T := ⟨S32x8x100000, .i32⟩) main_call0_v122) addi,
    TRef.nullary (TRef.of (T := ⟨S_, .i32⟩) main_call0_c_31) (constantI S_ 32 16#32),
    TRef.unary (TRef.of (T := ⟨S_, .i32⟩) main_call0_c_31) (TRef.of (T := ⟨S32x8x100000, .i32⟩) main_call0_v123) (broadcastInDim S32x8x100000 ![] bcast_S_S32x8x100000),
    TRef.binary (TRef.of (T := ⟨S32x8x100000, .i32⟩) main_call0_v121) (TRef.of (T := ⟨S32x8x100000, .i32⟩) main_call0_v123) (TRef.of (T := ⟨S32x8x100000, .i32⟩) main_call0_v124) Host.shli,
    TRef.nullary (TRef.of (T := ⟨S_, .i32⟩) main_call0_c_32) (constantI S_ 32 16#32),
    TRef.unary (TRef.of (T := ⟨S_, .i32⟩) main_call0_c_32) (TRef.of (T := ⟨S32x8x100000, .i32⟩) main_call0_v125) (broadcastInDim S32x8x100000 ![] bcast_S_S32x8x100000),
    TRef.binary (TRef.of (T := ⟨S32x8x100000, .i32⟩) main_call0_v121) (TRef.of (T := ⟨S32x8x100000, .i32⟩) main_call0_v125) (TRef.of (T := ⟨S32x8x100000, .i32⟩) main_call0_v126) Host.shrui,
    TRef.binary (TRef.of (T := ⟨S32x8x100000, .i32⟩) main_call0_v124) (TRef.of (T := ⟨S32x8x100000, .i32⟩) main_call0_v126) (TRef.of (T := ⟨S32x8x100000, .i32⟩) main_call0_v127) ori,
    TRef.binary (TRef.of (T := ⟨S32x8x100000, .i32⟩) main_call0_v122) (TRef.of (T := ⟨S32x8x100000, .i32⟩) main_call0_v127) (TRef.of (T := ⟨S32x8x100000, .i32⟩) main_call0_v128) xori,
    TRef.binary (TRef.of (T := ⟨S32x8x100000, .i32⟩) main_call0_v122) (TRef.of (T := ⟨S32x8x100000, .i32⟩) main_call0_v128) (TRef.of (T := ⟨S32x8x100000, .i32⟩) main_call0_v129) addi,
    TRef.nullary (TRef.of (T := ⟨S_, .i32⟩) main_call0_c_33) (constantI S_ 32 24#32),
    TRef.unary (TRef.of (T := ⟨S_, .i32⟩) main_call0_c_33) (TRef.of (T := ⟨S32x8x100000, .i32⟩) main_call0_v130) (broadcastInDim S32x8x100000 ![] bcast_S_S32x8x100000),
    TRef.binary (TRef.of (T := ⟨S32x8x100000, .i32⟩) main_call0_v128) (TRef.of (T := ⟨S32x8x100000, .i32⟩) main_call0_v130) (TRef.of (T := ⟨S32x8x100000, .i32⟩) main_call0_v131) Host.shli,
    TRef.nullary (TRef.of (T := ⟨S_, .i32⟩) main_call0_c_34) (constantI S_ 32 8#32),
    TRef.unary (TRef.of (T := ⟨S_, .i32⟩) main_call0_c_34) (TRef.of (T := ⟨S32x8x100000, .i32⟩) main_call0_v132) (broadcastInDim S32x8x100000 ![] bcast_S_S32x8x100000),
    TRef.binary (TRef.of (T := ⟨S32x8x100000, .i32⟩) main_call0_v128) (TRef.of (T := ⟨S32x8x100000, .i32⟩) main_call0_v132) (TRef.of (T := ⟨S32x8x100000, .i32⟩) main_call0_v133) Host.shrui,
    TRef.binary (TRef.of (T := ⟨S32x8x100000, .i32⟩) main_call0_v131) (TRef.of (T := ⟨S32x8x100000, .i32⟩) main_call0_v133) (TRef.of (T := ⟨S32x8x100000, .i32⟩) main_call0_v134) ori,
    TRef.binary (TRef.of (T := ⟨S32x8x100000, .i32⟩) main_call0_v129) (TRef.of (T := ⟨S32x8x100000, .i32⟩) main_call0_v134) (TRef.of (T := ⟨S32x8x100000, .i32⟩) main_call0_v135) xori,
    TRef.unary (TRef.of (T := ⟨S_, .i32⟩) main_v10) (TRef.of (T := ⟨S32x8x100000, .i32⟩) main_call0_v136) (broadcastInDim S32x8x100000 ![] bcast_S_S32x8x100000),
    TRef.binary (TRef.of (T := ⟨S32x8x100000, .i32⟩) main_call0_v129) (TRef.of (T := ⟨S32x8x100000, .i32⟩) main_call0_v136) (TRef.of (T := ⟨S32x8x100000, .i32⟩) main_call0_v137) addi,
    TRef.unary (TRef.of (T := ⟨S_, .i32⟩) main_call0_v1) (TRef.of (T := ⟨S32x8x100000, .i32⟩) main_call0_v138) (broadcastInDim S32x8x100000 ![] bcast_S_S32x8x100000),
    TRef.binary (TRef.of (T := ⟨S32x8x100000, .i32⟩) main_call0_v135) (TRef.of (T := ⟨S32x8x100000, .i32⟩) main_call0_v138) (TRef.of (T := ⟨S32x8x100000, .i32⟩) main_call0_v139) addi,
    TRef.nullary (TRef.of (T := ⟨S_, .i32⟩) main_call0_c_35) (constantI S_ 32 4#32) ]

/-- @main's operations 211 … 240 of 301 (window `main_part0`). -/
abbrev ops_part0_7 : List (HloOp τ sig (Elt F)) :=
  [ TRef.unary (TRef.of (T := ⟨S_, .i32⟩) main_call0_c_35) (TRef.of (T := ⟨S32x8x100000, .i32⟩) main_call0_v140) (broadcastInDim S32x8x100000 ![] bcast_S_S32x8x100000),
    TRef.binary (TRef.of (T := ⟨S32x8x100000, .i32⟩) main_call0_v139) (TRef.of (T := ⟨S32x8x100000, .i32⟩) main_call0_v140) (TRef.of (T := ⟨S32x8x100000, .i32⟩) main_call0_v141) addi,
    TRef.binary (TRef.of (T := ⟨S32x8x100000, .i32⟩) main_call0_v137) (TRef.of (T := ⟨S32x8x100000, .i32⟩) main_call0_v141) (TRef.of (T := ⟨S32x8x100000, .i32⟩) main_call0_v142) addi,
    TRef.nullary (TRef.of (T := ⟨S_, .i32⟩) main_call0_c_36) (constantI S_ 32 13#32),
    TRef.unary (TRef.of (T := ⟨S_, .i32⟩) main_call0_c_36) (TRef.of (T := ⟨S32x8x100000, .i32⟩) main_call0_v143) (broadcastInDim S32x8x100000 ![] bcast_S_S32x8x100000),
    TRef.binary (TRef.of (T := ⟨S32x8x100000, .i32⟩) main_call0_v141) (TRef.of (T := ⟨S32x8x100000, .i32⟩) main_call0_v143) (TRef.of (T := ⟨S32x8x100000, .i32⟩) main_call0_v144) Host.shli,
    TRef.nullary (TRef.of (T := ⟨S_, .i32⟩) main_call0_c_37) (constantI S_ 32 19#32),
    TRef.unary (TRef.of (T := ⟨S_, .i32⟩) main_call0_c_37) (TRef.of (T := ⟨S32x8x100000, .i32⟩) main_call0_v145) (broadcastInDim S32x8x100000 ![] bcast_S_S32x8x100000),
    TRef.binary (TRef.of (T := ⟨S32x8x100000, .i32⟩) main_call0_v141) (TRef.of (T := ⟨S32x8x100000, .i32⟩) main_call0_v145) (TRef.of (T := ⟨S32x8x100000, .i32⟩) main_call0_v146) Host.shrui,
    TRef.binary (TRef.of (T := ⟨S32x8x100000, .i32⟩) main_call0_v144) (TRef.of (T := ⟨S32x8x100000, .i32⟩) main_call0_v146) (TRef.of (T := ⟨S32x8x100000, .i32⟩) main_call0_v147) ori,
    TRef.binary (TRef.of (T := ⟨S32x8x100000, .i32⟩) main_call0_v142) (TRef.of (T := ⟨S32x8x100000, .i32⟩) main_call0_v147) (TRef.of (T := ⟨S32x8x100000, .i32⟩) main_call0_v148) xori,
    TRef.binary (TRef.of (T := ⟨S32x8x100000, .i32⟩) main_call0_v142) (TRef.of (T := ⟨S32x8x100000, .i32⟩) main_call0_v148) (TRef.of (T := ⟨S32x8x100000, .i32⟩) main_call0_v149) addi,
    TRef.nullary (TRef.of (T := ⟨S_, .i32⟩) main_call0_c_38) (constantI S_ 32 15#32),
    TRef.unary (TRef.of (T := ⟨S_, .i32⟩) main_call0_c_38) (TRef.of (T := ⟨S32x8x100000, .i32⟩) main_call0_v150) (broadcastInDim S32x8x100000 ![] bcast_S_S32x8x100000),
    TRef.binary (TRef.of (T := ⟨S32x8x100000, .i32⟩) main_call0_v148) (TRef.of (T := ⟨S32x8x100000, .i32⟩) main_call0_v150) (TRef.of (T := ⟨S32x8x100000, .i32⟩) main_call0_v151) Host.shli,
    TRef.nullary (TRef.of (T := ⟨S_, .i32⟩) main_call0_c_39) (constantI S_ 32 17#32),
    TRef.unary (TRef.of (T := ⟨S_, .i32⟩) main_call0_c_39) (TRef.of (T := ⟨S32x8x100000, .i32⟩) main_call0_v152) (broadcastInDim S32x8x100000 ![] bcast_S_S32x8x100000),
    TRef.binary (TRef.of (T := ⟨S32x8x100000, .i32⟩) main_call0_v148) (TRef.of (T := ⟨S32x8x100000, .i32⟩) main_call0_v152) (TRef.of (T := ⟨S32x8x100000, .i32⟩) main_call0_v153) Host.shrui,
    TRef.binary (TRef.of (T := ⟨S32x8x100000, .i32⟩) main_call0_v151) (TRef.of (T := ⟨S32x8x100000, .i32⟩) main_call0_v153) (TRef.of (T := ⟨S32x8x100000, .i32⟩) main_call0_v154) ori,
    TRef.binary (TRef.of (T := ⟨S32x8x100000, .i32⟩) main_call0_v149) (TRef.of (T := ⟨S32x8x100000, .i32⟩) main_call0_v154) (TRef.of (T := ⟨S32x8x100000, .i32⟩) main_call0_v155) xori,
    TRef.binary (TRef.of (T := ⟨S32x8x100000, .i32⟩) main_call0_v149) (TRef.of (T := ⟨S32x8x100000, .i32⟩) main_call0_v155) (TRef.of (T := ⟨S32x8x100000, .i32⟩) main_call0_v156) addi,
    TRef.nullary (TRef.of (T := ⟨S_, .i32⟩) main_call0_c_40) (constantI S_ 32 26#32),
    TRef.unary (TRef.of (T := ⟨S_, .i32⟩) main_call0_c_40) (TRef.of (T := ⟨S32x8x100000, .i32⟩) main_call0_v157) (broadcastInDim S32x8x100000 ![] bcast_S_S32x8x100000),
    TRef.binary (TRef.of (T := ⟨S32x8x100000, .i32⟩) main_call0_v155) (TRef.of (T := ⟨S32x8x100000, .i32⟩) main_call0_v157) (TRef.of (T := ⟨S32x8x100000, .i32⟩) main_call0_v158) Host.shli,
    TRef.nullary (TRef.of (T := ⟨S_, .i32⟩) main_call0_c_41) (constantI S_ 32 6#32),
    TRef.unary (TRef.of (T := ⟨S_, .i32⟩) main_call0_c_41) (TRef.of (T := ⟨S32x8x100000, .i32⟩) main_call0_v159) (broadcastInDim S32x8x100000 ![] bcast_S_S32x8x100000),
    TRef.binary (TRef.of (T := ⟨S32x8x100000, .i32⟩) main_call0_v155) (TRef.of (T := ⟨S32x8x100000, .i32⟩) main_call0_v159) (TRef.of (T := ⟨S32x8x100000, .i32⟩) main_call0_v160) Host.shrui,
    TRef.binary (TRef.of (T := ⟨S32x8x100000, .i32⟩) main_call0_v158) (TRef.of (T := ⟨S32x8x100000, .i32⟩) main_call0_v160) (TRef.of (T := ⟨S32x8x100000, .i32⟩) main_call0_v161) ori,
    TRef.binary (TRef.of (T := ⟨S32x8x100000, .i32⟩) main_call0_v156) (TRef.of (T := ⟨S32x8x100000, .i32⟩) main_call0_v161) (TRef.of (T := ⟨S32x8x100000, .i32⟩) main_call0_v162) xori,
    TRef.binary (TRef.of (T := ⟨S32x8x100000, .i32⟩) main_call0_v156) (TRef.of (T := ⟨S32x8x100000, .i32⟩) main_call0_v162) (TRef.of (T := ⟨S32x8x100000, .i32⟩) main_call0_v163) addi ]

/-- @main's operations 241 … 270 of 301 (window `main_part0`). -/
abbrev ops_part0_8 : List (HloOp τ sig (Elt F)) :=
  [ TRef.nullary (TRef.of (T := ⟨S_, .i32⟩) main_call0_c_42) (constantI S_ 32 6#32),
    TRef.unary (TRef.of (T := ⟨S_, .i32⟩) main_call0_c_42) (TRef.of (T := ⟨S32x8x100000, .i32⟩) main_call0_v164) (broadcastInDim S32x8x100000 ![] bcast_S_S32x8x100000),
    TRef.binary (TRef.of (T := ⟨S32x8x100000, .i32⟩) main_call0_v162) (TRef.of (T := ⟨S32x8x100000, .i32⟩) main_call0_v164) (TRef.of (T := ⟨S32x8x100000, .i32⟩) main_call0_v165) Host.shli,
    TRef.nullary (TRef.of (T := ⟨S_, .i32⟩) main_call0_c_43) (constantI S_ 32 26#32),
    TRef.unary (TRef.of (T := ⟨S_, .i32⟩) main_call0_c_43) (TRef.of (T := ⟨S32x8x100000, .i32⟩) main_call0_v166) (broadcastInDim S32x8x100000 ![] bcast_S_S32x8x100000),
    TRef.binary (TRef.of (T := ⟨S32x8x100000, .i32⟩) main_call0_v162) (TRef.of (T := ⟨S32x8x100000, .i32⟩) main_call0_v166) (TRef.of (T := ⟨S32x8x100000, .i32⟩) main_call0_v167) Host.shrui,
    TRef.binary (TRef.of (T := ⟨S32x8x100000, .i32⟩) main_call0_v165) (TRef.of (T := ⟨S32x8x100000, .i32⟩) main_call0_v167) (TRef.of (T := ⟨S32x8x100000, .i32⟩) main_call0_v168) ori,
    TRef.binary (TRef.of (T := ⟨S32x8x100000, .i32⟩) main_call0_v163) (TRef.of (T := ⟨S32x8x100000, .i32⟩) main_call0_v168) (TRef.of (T := ⟨S32x8x100000, .i32⟩) main_call0_v169) xori,
    TRef.unary (TRef.of (T := ⟨S_, .i32⟩) main_call0_v1) (TRef.of (T := ⟨S32x8x100000, .i32⟩) main_call0_v170) (broadcastInDim S32x8x100000 ![] bcast_S_S32x8x100000),
    TRef.binary (TRef.of (T := ⟨S32x8x100000, .i32⟩) main_call0_v163) (TRef.of (T := ⟨S32x8x100000, .i32⟩) main_call0_v170) (TRef.of (T := ⟨S32x8x100000, .i32⟩) main_v26_0) addi,
    TRef.unary (TRef.of (T := ⟨S_, .i32⟩) main_v8) (TRef.of (T := ⟨S32x8x100000, .i32⟩) main_call0_v172) (broadcastInDim S32x8x100000 ![] bcast_S_S32x8x100000),
    TRef.binary (TRef.of (T := ⟨S32x8x100000, .i32⟩) main_call0_v169) (TRef.of (T := ⟨S32x8x100000, .i32⟩) main_call0_v172) (TRef.of (T := ⟨S32x8x100000, .i32⟩) main_call0_v173) addi,
    TRef.nullary (TRef.of (T := ⟨S_, .i32⟩) main_call0_c_44) (constantI S_ 32 5#32),
    TRef.unary (TRef.of (T := ⟨S_, .i32⟩) main_call0_c_44) (TRef.of (T := ⟨S32x8x100000, .i32⟩) main_call0_v174) (broadcastInDim S32x8x100000 ![] bcast_S_S32x8x100000),
    TRef.binary (TRef.of (T := ⟨S32x8x100000, .i32⟩) main_call0_v173) (TRef.of (T := ⟨S32x8x100000, .i32⟩) main_call0_v174) (TRef.of (T := ⟨S32x8x100000, .i32⟩) main_v26_1) addi,
    binary main_v26_0 main_v26_1 main_v27 (xori : (⟨S32x8x100000, .i32⟩ : BufTy).Contents (Elt F) → (⟨S32x8x100000, .i32⟩ : BufTy).Contents (Elt F) → (⟨S32x8x100000, .i32⟩ : BufTy).Contents (Elt F)),
    nullary main_c_6 (constantI S_ 32 9#32),
    unary main_c_6 main_v28 (broadcastInDim S32x8x100000 ![] bcast_S_S32x8x100000 : (⟨S_, .i32⟩ : BufTy).Contents (Elt F) → (⟨S32x8x100000, .i32⟩ : BufTy).Contents (Elt F)),
    binary main_v27 main_v28 main_v29 (Host.shrui : (⟨S32x8x100000, .i32⟩ : BufTy).Contents (Elt F) → (⟨S32x8x100000, .i32⟩ : BufTy).Contents (Elt F) → (⟨S32x8x100000, .i32⟩ : BufTy).Contents (Elt F)),
    nullary main_c_7 (constantI S_ 32 1065353216#32),
    unary main_c_7 main_v30 (broadcastInDim S32x8x100000 ![] bcast_S_S32x8x100000 : (⟨S_, .i32⟩ : BufTy).Contents (Elt F) → (⟨S32x8x100000, .i32⟩ : BufTy).Contents (Elt F)),
    binary main_v29 main_v30 main_v31 (ori : (⟨S32x8x100000, .i32⟩ : BufTy).Contents (Elt F) → (⟨S32x8x100000, .i32⟩ : BufTy).Contents (Elt F) → (⟨S32x8x100000, .i32⟩ : BufTy).Contents (Elt F)),
    unary main_v31 main_v32 (bitcastToFloat (F := F) .f32 : (⟨S32x8x100000, .i32⟩ : BufTy).Contents (Elt F) → (⟨S32x8x100000, .f32⟩ : BufTy).Contents (Elt F)),
    nullary main_cst (constant S_ .f32 0x3F800000#32),
    unary main_cst main_v33 (broadcastInDim S32x8x100000 ![] bcast_S_S32x8x100000 : (⟨S_, .f32⟩ : BufTy).Contents (Elt F) → (⟨S32x8x100000, .f32⟩ : BufTy).Contents (Elt F)),
    binary main_v32 main_v33 main_v34 (subf : (⟨S32x8x100000, .f32⟩ : BufTy).Contents (Elt F) → (⟨S32x8x100000, .f32⟩ : BufTy).Contents (Elt F) → (⟨S32x8x100000, .f32⟩ : BufTy).Contents (Elt F)),
    nullary main_cst_8 (constant S_ .f32 0x3F800000#32),
    unary main_cst_8 main_v35 (broadcastInDim S32x8x100000 ![] bcast_S_S32x8x100000 : (⟨S_, .f32⟩ : BufTy).Contents (Elt F) → (⟨S32x8x100000, .f32⟩ : BufTy).Contents (Elt F)),
    binary main_v34 main_v35 main_v36 (mulf : (⟨S32x8x100000, .f32⟩ : BufTy).Contents (Elt F) → (⟨S32x8x100000, .f32⟩ : BufTy).Contents (Elt F) → (⟨S32x8x100000, .f32⟩ : BufTy).Contents (Elt F)),
    nullary main_cst_9 (constant S_ .f32 0x2B8CBCCC#32) ]

/-- @main's operations 271 … 281 of 301 (window `main_part0`). -/
abbrev ops_part0_9 : List (HloOp τ sig (Elt F)) :=
  [ unary main_cst_9 main_v37 (broadcastInDim S32x8x100000 ![] bcast_S_S32x8x100000 : (⟨S_, .f32⟩ : BufTy).Contents (Elt F) → (⟨S32x8x100000, .f32⟩ : BufTy).Contents (Elt F)),
    binary main_v36 main_v37 main_v38 (addf : (⟨S32x8x100000, .f32⟩ : BufTy).Contents (Elt F) → (⟨S32x8x100000, .f32⟩ : BufTy).Contents (Elt F) → (⟨S32x8x100000, .f32⟩ : BufTy).Contents (Elt F)),
    nullary main_cst_10 (constant S_ .f32 0x2B8CBCCC#32),
    unary main_cst_10 main_v39 (broadcastInDim S32x8x100000 ![] bcast_S_S32x8x100000 : (⟨S_, .f32⟩ : BufTy).Contents (Elt F) → (⟨S32x8x100000, .f32⟩ : BufTy).Contents (Elt F)),
    binary main_v39 main_v38 main_v40 (maximumf : (⟨S32x8x100000, .f32⟩ : BufTy).Contents (Elt F) → (⟨S32x8x100000, .f32⟩ : BufTy).Contents (Elt F) → (⟨S32x8x100000, .f32⟩ : BufTy).Contents (Elt F)),
    unary main_v40 main_v41 (Host.log : (⟨S32x8x100000, .f32⟩ : BufTy).Contents (Elt F) → (⟨S32x8x100000, .f32⟩ : BufTy).Contents (Elt F)),
    unary main_v41 main_v42 (Host.negf : (⟨S32x8x100000, .f32⟩ : BufTy).Contents (Elt F) → (⟨S32x8x100000, .f32⟩ : BufTy).Contents (Elt F)),
    unary main_v42 main_v43 (Host.log : (⟨S32x8x100000, .f32⟩ : BufTy).Contents (Elt F) → (⟨S32x8x100000, .f32⟩ : BufTy).Contents (Elt F)),
    unary main_v43 main_v44 (Host.negf : (⟨S32x8x100000, .f32⟩ : BufTy).Contents (Elt F) → (⟨S32x8x100000, .f32⟩ : BufTy).Contents (Elt F)),
    unary main_arg0 main_v45 (broadcastInDim S32x8x100000 ![0, 1, 2] bcast_S32x1x100000_S32x8x100000_0_1_2 : (⟨S32x1x100000, .f32⟩ : BufTy).Contents (Elt F) → (⟨S32x8x100000, .f32⟩ : BufTy).Contents (Elt F)),
    binary main_v44 main_v45 main_v46 (addf : (⟨S32x8x100000, .f32⟩ : BufTy).Contents (Elt F) → (⟨S32x8x100000, .f32⟩ : BufTy).Contents (Elt F) → (⟨S32x8x100000, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9)))))))))

/-- @main's operations 282 … 301 of 301 (window `main_part1`). -/
abbrev ops_part1 : List (HloOp τ sig (Elt F)) :=
  [ nullary main_cst_11 (constant S_ .f32 0x3F000000#32),
    unary main_cst_11 main_v47 (broadcastInDim S32x8x100000 ![] bcast_S_S32x8x100000 : (⟨S_, .f32⟩ : BufTy).Contents (Elt F) → (⟨S32x8x100000, .f32⟩ : BufTy).Contents (Elt F)),
    binary main_v46 main_v47 main_v48 (Host.divf : (⟨S32x8x100000, .f32⟩ : BufTy).Contents (Elt F) → (⟨S32x8x100000, .f32⟩ : BufTy).Contents (Elt F) → (⟨S32x8x100000, .f32⟩ : BufTy).Contents (Elt F)),
    nullary main_cst_12 (constant S_ .f32 0xFF800000#32),
    binary main_v48 main_cst_12 main_v49 ((fun x v => Host.reduce FloatOps.maximumf x v reducesTo_S32x8x100000_S32x8_d2 h_S_) : (⟨S32x8x100000, .f32⟩ : BufTy).Contents (Elt F) → (⟨S_, .f32⟩ : BufTy).Contents (Elt F) → (⟨S32x8, .f32⟩ : BufTy).Contents (Elt F)),
    nullary main_cst_13 (constant S_ .f32 0xFF800000#32),
    unary main_cst_13 main_v50 (broadcastInDim S32x8 ![] bcast_S_S32x8 : (⟨S_, .f32⟩ : BufTy).Contents (Elt F) → (⟨S32x8, .f32⟩ : BufTy).Contents (Elt F)),
    binary main_v50 main_v49 main_v51 (maximumf : (⟨S32x8, .f32⟩ : BufTy).Contents (Elt F) → (⟨S32x8, .f32⟩ : BufTy).Contents (Elt F) → (⟨S32x8, .f32⟩ : BufTy).Contents (Elt F)),
    unary main_v51 main_v52 (broadcastInDim S32x8x1 ![0, 1] bcast_S32x8_S32x8x1_0_1 : (⟨S32x8, .f32⟩ : BufTy).Contents (Elt F) → (⟨S32x8x1, .f32⟩ : BufTy).Contents (Elt F)),
    unary main_v52 main_v53 (broadcastInDim S32x8x100000 ![0, 1, 2] bcast_S32x8x1_S32x8x100000_0_1_2 : (⟨S32x8x1, .f32⟩ : BufTy).Contents (Elt F) → (⟨S32x8x100000, .f32⟩ : BufTy).Contents (Elt F)),
    binary main_v48 main_v53 main_v54 (subf : (⟨S32x8x100000, .f32⟩ : BufTy).Contents (Elt F) → (⟨S32x8x100000, .f32⟩ : BufTy).Contents (Elt F) → (⟨S32x8x100000, .f32⟩ : BufTy).Contents (Elt F)),
    unary main_v54 main_v55 (Host.exp : (⟨S32x8x100000, .f32⟩ : BufTy).Contents (Elt F) → (⟨S32x8x100000, .f32⟩ : BufTy).Contents (Elt F)),
    nullary main_cst_14 (constant S_ .f32 0x00000000#32),
    binary main_v55 main_cst_14 main_v56 ((fun x v => Host.reduceAdd x v reducesTo_S32x8x100000_S32x8_d2 h_S_) : (⟨S32x8x100000, .f32⟩ : BufTy).Contents (Elt F) → (⟨S_, .f32⟩ : BufTy).Contents (Elt F) → (⟨S32x8, .f32⟩ : BufTy).Contents (Elt F)),
    unary main_v56 main_v57 (broadcastInDim S32x8x1 ![0, 1] bcast_S32x8_S32x8x1_0_1 : (⟨S32x8, .f32⟩ : BufTy).Contents (Elt F) → (⟨S32x8x1, .f32⟩ : BufTy).Contents (Elt F)),
    unary main_v57 main_v58 (broadcastInDim S32x8x100000 ![0, 1, 2] bcast_S32x8x1_S32x8x100000_0_1_2 : (⟨S32x8x1, .f32⟩ : BufTy).Contents (Elt F) → (⟨S32x8x100000, .f32⟩ : BufTy).Contents (Elt F)),
    binary main_v55 main_v58 main_v59 (Host.divf : (⟨S32x8x100000, .f32⟩ : BufTy).Contents (Elt F) → (⟨S32x8x100000, .f32⟩ : BufTy).Contents (Elt F) → (⟨S32x8x100000, .f32⟩ : BufTy).Contents (Elt F)),
    nullary main_cst_15 (constant S_ .f32 0xFF800000#32),
    binary main_v59 main_cst_15 main_v60 ((fun x v => Host.reduce FloatOps.maximumf x v reducesTo_S32x8x100000_S32x100000_d1 h_S_) : (⟨S32x8x100000, .f32⟩ : BufTy).Contents (Elt F) → (⟨S_, .f32⟩ : BufTy).Contents (Elt F) → (⟨S32x100000, .f32⟩ : BufTy).Contents (Elt F)),
    unary main_v60 main_v61 (broadcastInDim S32x1x100000 ![0, 2] bcast_S32x100000_S32x1x100000_0_2 : (⟨S32x100000, .f32⟩ : BufTy).Contents (Elt F) → (⟨S32x1x100000, .f32⟩ : BufTy).Contents (Elt F)) ]

/-- @main's 301 operations, in order (a called function's operations stand in its call's place, spelt `TRef.…`). -/
abbrev ops : List (HloOp τ sig (Elt F)) :=
  ops_part0 ++ (ops_part1)

set_option maxRecDepth 8192 in
set_option maxHeartbeats 4000000 in
/-- The first part of the program is its listed operations. -/
theorem main_part0_eq (c : Dev nD) : main_part0 (F := F) c = seq ops_part0 := rfl
set_option maxRecDepth 8192 in
/-- So is the second part. -/
theorem main_part1_eq (c : Dev nD) : main_part1 (F := F) c = seq ops_part1 := rfl
set_option maxRecDepth 8192 in
/-- So the whole program is its listed operations in order. -/
theorem main_eq (c : Dev nD) : main (F := F) c = seq ops := by
  simp only [ops, seq_append, ← main_part0_eq c, ← main_part1_eq c]
  rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
set_option maxRecDepth 8192 in
/-- The operations of this list work on buffers of the program. -/
theorem ops_part0_0_sub : (ops_part0_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub ..⟩
set_option maxRecDepth 8192 in
/-- They take no fresh buffer. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_1_sub : (ops_part0_1 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
/-- They take no fresh buffer. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_2_sub : (ops_part0_2 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩
set_option maxRecDepth 8192 in
/-- They take no fresh buffer. -/
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_3_sub : (ops_part0_3 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
set_option maxRecDepth 8192 in
/-- They take no fresh buffer. -/
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_4_sub : (ops_part0_4 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
/-- They take no fresh buffer. -/
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_5_sub : (ops_part0_5 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
/-- They take no fresh buffer. -/
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_6_sub : (ops_part0_6 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩
set_option maxRecDepth 8192 in
/-- They take no fresh buffer. -/
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_7_sub : (ops_part0_7 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
/-- They take no fresh buffer. -/
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_8_sub : (ops_part0_8 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub ..⟩
set_option maxRecDepth 8192 in
/-- They take no fresh buffer. -/
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of this list work on buffers of the program. -/
theorem ops_part0_9_sub : (ops_part0_9 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., unary_bufs_sub .., unary_bufs_sub .., binary_bufs_sub ..⟩
set_option maxRecDepth 8192 in
/-- They take no fresh buffer. -/
theorem ops_part0_9_fresh : (ops_part0_9 : List (HloOp τ sig (Elt F))).Forall fun op => op.fresh = ∅ :=
  ⟨rfl, rfl, rfl, rfl, rfl, rfl, rfl, rfl, rfl, rfl, rfl⟩
set_option maxRecDepth 8192 in
/-- The operations of this list work on buffers of the program. -/
theorem ops_part1_sub : (ops_part1 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub ..⟩
set_option maxRecDepth 8192 in
/-- They take no fresh buffer. -/
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- Every operation works on buffers of the program. -/
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part1_sub op h]
/-- No operation takes a fresh buffer. -/
theorem ops_fresh : ∀ op ∈ (ops : List (HloOp τ sig (Elt F))), op.fresh = ∅ := fun op h => by
    simp only [ops, ops_part0, List.mem_append, or_assoc] at h
    rcases h with h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part1_fresh op h]

end Cert.ReferenceIdeal.Value

end
-- ==== Proof.Ref.Run.lean ====
/- The reference program's run read back window by window: every weakly fair execution terminates with the result
   buffer at the operations' composed term of the argument's launch contents, and the argument unchanged. -/
module

public import proofs.«01_k».proof.Proof.Ref.Ops

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 1#32

set_option maxRecDepth 8192 in
/-- `main_v6`'s composed term of the arguments (named: it is used 2 times). -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_v8`'s composed term of the arguments (named: it is used 5 times). -/
def res_main_v8 (V0 : Valuation τ sig (Elt F)) : (Proc.devRef .tc main_v8 : DevRef τ sig).ty.Contents (Elt F) :=
  shapeCast _ (extractStridedSlice S1 ![0] (res_main_v6 V0) slices_S2_S1_0) shapeCasts_S1_S_

set_option maxRecDepth 8192 in
/-- `main_v10`'s composed term of the arguments (named: it is used 5 times). -/
def res_main_v10 (V0 : Valuation τ sig (Elt F)) : (Proc.devRef .tc main_v10 : DevRef τ sig).ty.Contents (Elt F) :=
  shapeCast _ (extractStridedSlice S1 ![1] (res_main_v6 V0) slices_S2_S1_1) shapeCasts_S1_S_

set_option maxRecDepth 8192 in
/-- `main_v21`'s composed term of the arguments (named: it is used 2 times). -/
def res_main_v21 (V0 : Valuation τ sig (Elt F)) : (Proc.devRef .tc main_v21 : DevRef τ sig).ty.Contents (Elt F) :=
  addi (addi (muli (broadcastInDim S32x8x100000 ![] bcast_S_S32x8x100000 (constantI S_ 64 800000#64)) (iotaInDim S32x8x100000 64 0)) (muli (broadcastInDim S32x8x100000 ![] bcast_S_S32x8x100000 (constantI S_ 64 100000#64)) (iotaInDim S32x8x100000 64 1))) (muli (broadcastInDim S32x8x100000 ![] bcast_S_S32x8x100000 (constantI S_ 64 1#64)) (iotaInDim S32x8x100000 64 2))

set_option maxRecDepth 8192 in
/-- `main_call0_v1`'s composed term of the arguments (named: it is used 4 times). -/
def res_main_call0_v1 (V0 : Valuation τ sig (Elt F)) : (Proc.devRef .tc main_call0_v1 : DevRef τ sig).ty.Contents (Elt F) :=
  xori (xori (res_main_v8 V0) (res_main_v10 V0)) (constantI S_ 32 466688986#32)

set_option maxRecDepth 8192 in
/-- `main_call0_v5`'s composed term of the arguments (named: it is used 3 times). -/
def res_main_call0_v5 (V0 : Valuation τ sig (Elt F)) : (Proc.devRef .tc main_call0_v5 : DevRef τ sig).ty.Contents (Elt F) :=
  addi (trunci 32 (res_main_v21 V0) natLt_32_64) (broadcastInDim S32x8x100000 ![] bcast_S_S32x8x100000 (res_main_v10 V0))

set_option maxRecDepth 8192 in
/-- `main_call0_v6`'s composed term of the arguments (named: it is used 2 times). -/
def res_main_call0_v6 (V0 : Valuation τ sig (Elt F)) : (Proc.devRef .tc main_call0_v6 : DevRef τ sig).ty.Contents (Elt F) :=
  addi (addi (trunci 32 (Host.shrui (res_main_v21 V0) (broadcastInDim S32x8x100000 ![] bcast_S_S32x8x100000 (constantI S_ 64 32#64))) natLt_32_64) (broadcastInDim S32x8x100000 ![] bcast_S_S32x8x100000 (res_main_v8 V0))) (res_main_call0_v5 V0)

set_option maxRecDepth 8192 in
/-- `main_call0_v12`'s composed term of the arguments (named: it is used 3 times). -/
def res_main_call0_v12 (V0 : Valuation τ sig (Elt F)) : (Proc.devRef .tc main_call0_v12 : DevRef τ sig).ty.Contents (Elt F) :=
  xori (res_main_call0_v6 V0) (ori (Host.shli (res_main_call0_v5 V0) (broadcastInDim S32x8x100000 ![] bcast_S_S32x8x100000 (constantI S_ 32 13#32))) (Host.shrui (res_main_call0_v5 V0) (broadcastInDim S32x8x100000 ![] bcast_S_S32x8x100000 (constantI S_ 32 19#32))))

set_option maxRecDepth 8192 in
/-- `main_call0_v13`'s composed term of the arguments (named: it is used 2 times). -/
def res_main_call0_v13 (V0 : Valuation τ sig (Elt F)) : (Proc.devRef .tc main_call0_v13 : DevRef τ sig).ty.Contents (Elt F) :=
  addi (res_main_call0_v6 V0) (res_main_call0_v12 V0)

set_option maxRecDepth 8192 in
/-- `main_call0_v19`'s composed term of the arguments (named: it is used 3 times). -/
def res_main_call0_v19 (V0 : Valuation τ sig (Elt F)) : (Proc.devRef .tc main_call0_v19 : DevRef τ sig).ty.Contents (Elt F) :=
  xori (res_main_call0_v13 V0) (ori (Host.shli (res_main_call0_v12 V0) (broadcastInDim S32x8x100000 ![] bcast_S_S32x8x100000 (constantI S_ 32 15#32))) (Host.shrui (res_main_call0_v12 V0) (broadcastInDim S32x8x100000 ![] bcast_S_S32x8x100000 (constantI S_ 32 17#32))))

set_option maxRecDepth 8192 in
/-- `main_call0_v20`'s composed term of the arguments (named: it is used 2 times). -/
def res_main_call0_v20 (V0 : Valuation τ sig (Elt F)) : (Proc.devRef .tc main_call0_v20 : DevRef τ sig).ty.Contents (Elt F) :=
  addi (res_main_call0_v13 V0) (res_main_call0_v19 V0)

set_option maxRecDepth 8192 in
/-- `main_call0_v26`'s composed term of the arguments (named: it is used 3 times). -/
def res_main_call0_v26 (V0 : Valuation τ sig (Elt F)) : (Proc.devRef .tc main_call0_v26 : DevRef τ sig).ty.Contents (Elt F) :=
  xori (res_main_call0_v20 V0) (ori (Host.shli (res_main_call0_v19 V0) (broadcastInDim S32x8x100000 ![] bcast_S_S32x8x100000 (constantI S_ 32 26#32))) (Host.shrui (res_main_call0_v19 V0) (broadcastInDim S32x8x100000 ![] bcast_S_S32x8x100000 (constantI S_ 32 6#32))))

set_option maxRecDepth 8192 in
/-- `main_call0_v27`'s composed term of the arguments (named: it is used 2 times). -/
def res_main_call0_v27 (V0 : Valuation τ sig (Elt F)) : (Proc.devRef .tc main_call0_v27 : DevRef τ sig).ty.Contents (Elt F) :=
  addi (res_main_call0_v20 V0) (res_main_call0_v26 V0)

set_option maxRecDepth 8192 in
/-- `main_call0_v39`'s composed term of the arguments (named: it is used 3 times). -/
def res_main_call0_v39 (V0 : Valuation τ sig (Elt F)) : (Proc.devRef .tc main_call0_v39 : DevRef τ sig).ty.Contents (Elt F) :=
  addi (addi (xori (res_main_call0_v27 V0) (ori (Host.shli (res_main_call0_v26 V0) (broadcastInDim S32x8x100000 ![] bcast_S_S32x8x100000 (constantI S_ 32 6#32))) (Host.shrui (res_main_call0_v26 V0) (broadcastInDim S32x8x100000 ![] bcast_S_S32x8x100000 (constantI S_ 32 26#32))))) (broadcastInDim S32x8x100000 ![] bcast_S_S32x8x100000 (res_main_call0_v1 V0))) (broadcastInDim S32x8x100000 ![] bcast_S_S32x8x100000 (constantI S_ 32 1#32))

set_option maxRecDepth 8192 in
/-- `main_call0_v40`'s composed term of the arguments (named: it is used 2 times). -/
def res_main_call0_v40 (V0 : Valuation τ sig (Elt F)) : (Proc.devRef .tc main_call0_v40 : DevRef τ sig).ty.Contents (Elt F) :=
  addi (addi (res_main_call0_v27 V0) (broadcastInDim S32x8x100000 ![] bcast_S_S32x8x100000 (res_main_v10 V0))) (res_main_call0_v39 V0)

set_option maxRecDepth 8192 in
/-- `main_call0_v46`'s composed term of the arguments (named: it is used 3 times). -/
def res_main_call0_v46 (V0 : Valuation τ sig (Elt F)) : (Proc.devRef .tc main_call0_v46 : DevRef τ sig).ty.Contents (Elt F) :=
  xori (res_main_call0_v40 V0) (ori (Host.shli (res_main_call0_v39 V0) (broadcastInDim S32x8x100000 ![] bcast_S_S32x8x100000 (constantI S_ 32 17#32))) (Host.shrui (res_main_call0_v39 V0) (broadcastInDim S32x8x100000 ![] bcast_S_S32x8x100000 (constantI S_ 32 15#32))))

set_option maxRecDepth 8192 in
/-- `main_call0_v47`'s composed term of the arguments (named: it is used 2 times). -/
def res_main_call0_v47 (V0 : Valuation τ sig (Elt F)) : (Proc.devRef .tc main_call0_v47 : DevRef τ sig).ty.Contents (Elt F) :=
  addi (res_main_call0_v40 V0) (res_main_call0_v46 V0)

set_option maxRecDepth 8192 in
/-- `main_call0_v53`'s composed term of the arguments (named: it is used 3 times). -/
def res_main_call0_v53 (V0 : Valuation τ sig (Elt F)) : (Proc.devRef .tc main_call0_v53 : DevRef τ sig).ty.Contents (Elt F) :=
  xori (res_main_call0_v47 V0) (ori (Host.shli (res_main_call0_v46 V0) (broadcastInDim S32x8x100000 ![] bcast_S_S32x8x100000 (constantI S_ 32 29#32))) (Host.shrui (res_main_call0_v46 V0) (broadcastInDim S32x8x100000 ![] bcast_S_S32x8x100000 (constantI S_ 32 3#32))))

set_option maxRecDepth 8192 in
/-- `main_call0_v54`'s composed term of the arguments (named: it is used 2 times). -/
def res_main_call0_v54 (V0 : Valuation τ sig (Elt F)) : (Proc.devRef .tc main_call0_v54 : DevRef τ sig).ty.Contents (Elt F) :=
  addi (res_main_call0_v47 V0) (res_main_call0_v53 V0)

set_option maxRecDepth 8192 in
/-- `main_call0_v60`'s composed term of the arguments (named: it is used 3 times). -/
def res_main_call0_v60 (V0 : Valuation τ sig (Elt F)) : (Proc.devRef .tc main_call0_v60 : DevRef τ sig).ty.Contents (Elt F) :=
  xori (res_main_call0_v54 V0) (ori (Host.shli (res_main_call0_v53 V0) (broadcastInDim S32x8x100000 ![] bcast_S_S32x8x100000 (constantI S_ 32 16#32))) (Host.shrui (res_main_call0_v53 V0) (broadcastInDim S32x8x100000 ![] bcast_S_S32x8x100000 (constantI S_ 32 16#32))))

set_option maxRecDepth 8192 in
/-- `main_call0_v61`'s composed term of the arguments (named: it is used 2 times). -/
def res_main_call0_v61 (V0 : Valuation τ sig (Elt F)) : (Proc.devRef .tc main_call0_v61 : DevRef τ sig).ty.Contents (Elt F) :=
  addi (res_main_call0_v54 V0) (res_main_call0_v60 V0)

set_option maxRecDepth 8192 in
/-- `main_call0_v73`'s composed term of the arguments (named: it is used 3 times). -/
def res_main_call0_v73 (V0 : Valuation τ sig (Elt F)) : (Proc.devRef .tc main_call0_v73 : DevRef τ sig).ty.Contents (Elt F) :=
  addi (addi (xori (res_main_call0_v61 V0) (ori (Host.shli (res_main_call0_v60 V0) (broadcastInDim S32x8x100000 ![] bcast_S_S32x8x100000 (constantI S_ 32 24#32))) (Host.shrui (res_main_call0_v60 V0) (broadcastInDim S32x8x100000 ![] bcast_S_S32x8x100000 (constantI S_ 32 8#32))))) (broadcastInDim S32x8x100000 ![] bcast_S_S32x8x100000 (res_main_v8 V0))) (broadcastInDim S32x8x100000 ![] bcast_S_S32x8x100000 (constantI S_ 32 2#32))

set_option maxRecDepth 8192 in
/-- `main_call0_v74`'s composed term of the arguments (named: it is used 2 times). -/
def res_main_call0_v74 (V0 : Valuation τ sig (Elt F)) : (Proc.devRef .tc main_call0_v74 : DevRef τ sig).ty.Contents (Elt F) :=
  addi (addi (res_main_call0_v61 V0) (broadcastInDim S32x8x100000 ![] bcast_S_S32x8x100000 (res_main_call0_v1 V0))) (res_main_call0_v73 V0)

set_option maxRecDepth 8192 in
/-- `main_call0_v80`'s composed term of the arguments (named: it is used 3 times). -/
def res_main_call0_v80 (V0 : Valuation τ sig (Elt F)) : (Proc.devRef .tc main_call0_v80 : DevRef τ sig).ty.Contents (Elt F) :=
  xori (res_main_call0_v74 V0) (ori (Host.shli (res_main_call0_v73 V0) (broadcastInDim S32x8x100000 ![] bcast_S_S32x8x100000 (constantI S_ 32 13#32))) (Host.shrui (res_main_call0_v73 V0) (broadcastInDim S32x8x100000 ![] bcast_S_S32x8x100000 (constantI S_ 32 19#32))))

set_option maxRecDepth 8192 in
/-- `main_call0_v81`'s composed term of the arguments (named: it is used 2 times). -/
def res_main_call0_v81 (V0 : Valuation τ sig (Elt F)) : (Proc.devRef .tc main_call0_v81 : DevRef τ sig).ty.Contents (Elt F) :=
  addi (res_main_call0_v74 V0) (res_main_call0_v80 V0)

set_option maxRecDepth 8192 in
/-- `main_call0_v87`'s composed term of the arguments (named: it is used 3 times). -/
def res_main_call0_v87 (V0 : Valuation τ sig (Elt F)) : (Proc.devRef .tc main_call0_v87 : DevRef τ sig).ty.Contents (Elt F) :=
  xori (res_main_call0_v81 V0) (ori (Host.shli (res_main_call0_v80 V0) (broadcastInDim S32x8x100000 ![] bcast_S_S32x8x100000 (constantI S_ 32 15#32))) (Host.shrui (res_main_call0_v80 V0) (broadcastInDim S32x8x100000 ![] bcast_S_S32x8x100000 (constantI S_ 32 17#32))))

set_option maxRecDepth 8192 in
/-- `main_call0_v88`'s composed term of the arguments (named: it is used 2 times). -/
def res_main_call0_v88 (V0 : Valuation τ sig (Elt F)) : (Proc.devRef .tc main_call0_v88 : DevRef τ sig).ty.Contents (Elt F) :=
  addi (res_main_call0_v81 V0) (res_main_call0_v87 V0)

set_option maxRecDepth 8192 in
/-- `main_call0_v94`'s composed term of the arguments (named: it is used 3 times). -/
def res_main_call0_v94 (V0 : Valuation τ sig (Elt F)) : (Proc.devRef .tc main_call0_v94 : DevRef τ sig).ty.Contents (Elt F) :=
  xori (res_main_call0_v88 V0) (ori (Host.shli (res_main_call0_v87 V0) (broadcastInDim S32x8x100000 ![] bcast_S_S32x8x100000 (constantI S_ 32 26#32))) (Host.shrui (res_main_call0_v87 V0) (broadcastInDim S32x8x100000 ![] bcast_S_S32x8x100000 (constantI S_ 32 6#32))))

set_option maxRecDepth 8192 in
/-- `main_call0_v95`'s composed term of the arguments (named: it is used 2 times). -/
def res_main_call0_v95 (V0 : Valuation τ sig (Elt F)) : (Proc.devRef .tc main_call0_v95 : DevRef τ sig).ty.Contents (Elt F) :=
  addi (res_main_call0_v88 V0) (res_main_call0_v94 V0)

set_option maxRecDepth 8192 in
/-- `main_call0_v107`'s composed term of the arguments (named: it is used 3 times). -/
def res_main_call0_v107 (V0 : Valuation τ sig (Elt F)) : (Proc.devRef .tc main_call0_v107 : DevRef τ sig).ty.Contents (Elt F) :=
  addi (addi (xori (res_main_call0_v95 V0) (ori (Host.shli (res_main_call0_v94 V0) (broadcastInDim S32x8x100000 ![] bcast_S_S32x8x100000 (constantI S_ 32 6#32))) (Host.shrui (res_main_call0_v94 V0) (broadcastInDim S32x8x100000 ![] bcast_S_S32x8x100000 (constantI S_ 32 26#32))))) (broadcastInDim S32x8x100000 ![] bcast_S_S32x8x100000 (res_main_v10 V0))) (broadcastInDim S32x8x100000 ![] bcast_S_S32x8x100000 (constantI S_ 32 3#32))

set_option maxRecDepth 8192 in
/-- `main_call0_v108`'s composed term of the arguments (named: it is used 2 times). -/
def res_main_call0_v108 (V0 : Valuation τ sig (Elt F)) : (Proc.devRef .tc main_call0_v108 : DevRef τ sig).ty.Contents (Elt F) :=
  addi (addi (res_main_call0_v95 V0) (broadcastInDim S32x8x100000 ![] bcast_S_S32x8x100000 (res_main_v8 V0))) (res_main_call0_v107 V0)

set_option maxRecDepth 8192 in
/-- `main_call0_v114`'s composed term of the arguments (named: it is used 3 times). -/
def res_main_call0_v114 (V0 : Valuation τ sig (Elt F)) : (Proc.devRef .tc main_call0_v114 : DevRef τ sig).ty.Contents (Elt F) :=
  xori (res_main_call0_v108 V0) (ori (Host.shli (res_main_call0_v107 V0) (broadcastInDim S32x8x100000 ![] bcast_S_S32x8x100000 (constantI S_ 32 17#32))) (Host.shrui (res_main_call0_v107 V0) (broadcastInDim S32x8x100000 ![] bcast_S_S32x8x100000 (constantI S_ 32 15#32))))

set_option maxRecDepth 8192 in
/-- `main_call0_v115`'s composed term of the arguments (named: it is used 2 times). -/
def res_main_call0_v115 (V0 : Valuation τ sig (Elt F)) : (Proc.devRef .tc main_call0_v115 : DevRef τ sig).ty.Contents (Elt F) :=
  addi (res_main_call0_v108 V0) (res_main_call0_v114 V0)

set_option maxRecDepth 8192 in
/-- `main_call0_v121`'s composed term of the arguments (named: it is used 3 times). -/
def res_main_call0_v121 (V0 : Valuation τ sig (Elt F)) : (Proc.devRef .tc main_call0_v121 : DevRef τ sig).ty.Contents (Elt F) :=
  xori (res_main_call0_v115 V0) (ori (Host.shli (res_main_call0_v114 V0) (broadcastInDim S32x8x100000 ![] bcast_S_S32x8x100000 (constantI S_ 32 29#32))) (Host.shrui (res_main_call0_v114 V0) (broadcastInDim S32x8x100000 ![] bcast_S_S32x8x100000 (constantI S_ 32 3#32))))

set_option maxRecDepth 8192 in
/-- `main_call0_v122`'s composed term of the arguments (named: it is used 2 times). -/
def res_main_call0_v122 (V0 : Valuation τ sig (Elt F)) : (Proc.devRef .tc main_call0_v122 : DevRef τ sig).ty.Contents (Elt F) :=
  addi (res_main_call0_v115 V0) (res_main_call0_v121 V0)

set_option maxRecDepth 8192 in
/-- `main_call0_v128`'s composed term of the arguments (named: it is used 3 times). -/
def res_main_call0_v128 (V0 : Valuation τ sig (Elt F)) : (Proc.devRef .tc main_call0_v128 : DevRef τ sig).ty.Contents (Elt F) :=
  xori (res_main_call0_v122 V0) (ori (Host.shli (res_main_call0_v121 V0) (broadcastInDim S32x8x100000 ![] bcast_S_S32x8x100000 (constantI S_ 32 16#32))) (Host.shrui (res_main_call0_v121 V0) (broadcastInDim S32x8x100000 ![] bcast_S_S32x8x100000 (constantI S_ 32 16#32))))

set_option maxRecDepth 8192 in
/-- `main_call0_v129`'s composed term of the arguments (named: it is used 2 times). -/
def res_main_call0_v129 (V0 : Valuation τ sig (Elt F)) : (Proc.devRef .tc main_call0_v129 : DevRef τ sig).ty.Contents (Elt F) :=
  addi (res_main_call0_v122 V0) (res_main_call0_v128 V0)

set_option maxRecDepth 8192 in
/-- `main_call0_v141`'s composed term of the arguments (named: it is used 3 times). -/
def res_main_call0_v141 (V0 : Valuation τ sig (Elt F)) : (Proc.devRef .tc main_call0_v141 : DevRef τ sig).ty.Contents (Elt F) :=
  addi (addi (xori (res_main_call0_v129 V0) (ori (Host.shli (res_main_call0_v128 V0) (broadcastInDim S32x8x100000 ![] bcast_S_S32x8x100000 (constantI S_ 32 24#32))) (Host.shrui (res_main_call0_v128 V0) (broadcastInDim S32x8x100000 ![] bcast_S_S32x8x100000 (constantI S_ 32 8#32))))) (broadcastInDim S32x8x100000 ![] bcast_S_S32x8x100000 (res_main_call0_v1 V0))) (broadcastInDim S32x8x100000 ![] bcast_S_S32x8x100000 (constantI S_ 32 4#32))

set_option maxRecDepth 8192 in
/-- `main_call0_v142`'s composed term of the arguments (named: it is used 2 times). -/
def res_main_call0_v142 (V0 : Valuation τ sig (Elt F)) : (Proc.devRef .tc main_call0_v142 : DevRef τ sig).ty.Contents (Elt F) :=
  addi (addi (res_main_call0_v129 V0) (broadcastInDim S32x8x100000 ![] bcast_S_S32x8x100000 (res_main_v10 V0))) (res_main_call0_v141 V0)

set_option maxRecDepth 8192 in
/-- `main_call0_v148`'s composed term of the arguments (named: it is used 3 times). -/
def res_main_call0_v148 (V0 : Valuation τ sig (Elt F)) : (Proc.devRef .tc main_call0_v148 : DevRef τ sig).ty.Contents (Elt F) :=
  xori (res_main_call0_v142 V0) (ori (Host.shli (res_main_call0_v141 V0) (broadcastInDim S32x8x100000 ![] bcast_S_S32x8x100000 (constantI S_ 32 13#32))) (Host.shrui (res_main_call0_v141 V0) (broadcastInDim S32x8x100000 ![] bcast_S_S32x8x100000 (constantI S_ 32 19#32))))

set_option maxRecDepth 8192 in
/-- `main_call0_v149`'s composed term of the arguments (named: it is used 2 times). -/
def res_main_call0_v149 (V0 : Valuation τ sig (Elt F)) : (Proc.devRef .tc main_call0_v149 : DevRef τ sig).ty.Contents (Elt F) :=
  addi (res_main_call0_v142 V0) (res_main_call0_v148 V0)

set_option maxRecDepth 8192 in
/-- `main_call0_v155`'s composed term of the arguments (named: it is used 3 times). -/
def res_main_call0_v155 (V0 : Valuation τ sig (Elt F)) : (Proc.devRef .tc main_call0_v155 : DevRef τ sig).ty.Contents (Elt F) :=
  xori (res_main_call0_v149 V0) (ori (Host.shli (res_main_call0_v148 V0) (broadcastInDim S32x8x100000 ![] bcast_S_S32x8x100000 (constantI S_ 32 15#32))) (Host.shrui (res_main_call0_v148 V0) (broadcastInDim S32x8x100000 ![] bcast_S_S32x8x100000 (constantI S_ 32 17#32))))

set_option maxRecDepth 8192 in
/-- `main_call0_v156`'s composed term of the arguments (named: it is used 2 times). -/
def res_main_call0_v156 (V0 : Valuation τ sig (Elt F)) : (Proc.devRef .tc main_call0_v156 : DevRef τ sig).ty.Contents (Elt F) :=
  addi (res_main_call0_v149 V0) (res_main_call0_v155 V0)

set_option maxRecDepth 8192 in
/-- `main_call0_v162`'s composed term of the arguments (named: it is used 3 times). -/
def res_main_call0_v162 (V0 : Valuation τ sig (Elt F)) : (Proc.devRef .tc main_call0_v162 : DevRef τ sig).ty.Contents (Elt F) :=
  xori (res_main_call0_v156 V0) (ori (Host.shli (res_main_call0_v155 V0) (broadcastInDim S32x8x100000 ![] bcast_S_S32x8x100000 (constantI S_ 32 26#32))) (Host.shrui (res_main_call0_v155 V0) (broadcastInDim S32x8x100000 ![] bcast_S_S32x8x100000 (constantI S_ 32 6#32))))

set_option maxRecDepth 8192 in
/-- `main_call0_v163`'s composed term of the arguments (named: it is used 2 times). -/
def res_main_call0_v163 (V0 : Valuation τ sig (Elt F)) : (Proc.devRef .tc main_call0_v163 : DevRef τ sig).ty.Contents (Elt F) :=
  addi (res_main_call0_v156 V0) (res_main_call0_v162 V0)

set_option maxRecDepth 8192 in
/-- `main_v48`'s composed term of the arguments (named: it is used 2 times). -/
def res_main_v48 (V0 : Valuation τ sig (Elt F)) : (Proc.devRef .tc main_v48 : DevRef τ sig).ty.Contents (Elt F) :=
  Host.divf (addf (Host.negf (Host.log (Host.negf (Host.log (maximumf (broadcastInDim S32x8x100000 ![] bcast_S_S32x8x100000 (constant S_ .f32 0x2B8CBCCC#32)) (addf (mulf (subf (bitcastToFloat (F := F) .f32 (ori (Host.shrui (xori (addi (res_main_call0_v163 V0) (broadcastInDim S32x8x100000 ![] bcast_S_S32x8x100000 (res_main_call0_v1 V0))) (addi (addi (xori (res_main_call0_v163 V0) (ori (Host.shli (res_main_call0_v162 V0) (broadcastInDim S32x8x100000 ![] bcast_S_S32x8x100000 (constantI S_ 32 6#32))) (Host.shrui (res_main_call0_v162 V0) (broadcastInDim S32x8x100000 ![] bcast_S_S32x8x100000 (constantI S_ 32 26#32))))) (broadcastInDim S32x8x100000 ![] bcast_S_S32x8x100000 (res_main_v8 V0))) (broadcastInDim S32x8x100000 ![] bcast_S_S32x8x100000 (constantI S_ 32 5#32)))) (broadcastInDim S32x8x100000 ![] bcast_S_S32x8x100000 (constantI S_ 32 9#32))) (broadcastInDim S32x8x100000 ![] bcast_S_S32x8x100000 (constantI S_ 32 1065353216#32)))) (broadcastInDim S32x8x100000 ![] bcast_S_S32x8x100000 (constant S_ .f32 0x3F800000#32))) (broadcastInDim S32x8x100000 ![] bcast_S_S32x8x100000 (constant S_ .f32 0x3F800000#32))) (broadcastInDim S32x8x100000 ![] bcast_S_S32x8x100000 (constant S_ .f32 0x2B8CBCCC#32)))))))) (broadcastInDim S32x8x100000 ![0, 1, 2] bcast_S32x1x100000_S32x8x100000_0_1_2 (V0 (Proc.devRef .tc main_arg0)))) (broadcastInDim S32x8x100000 ![] bcast_S_S32x8x100000 (constant S_ .f32 0x3F000000#32))

set_option maxRecDepth 8192 in
/-- `main_v55`'s composed term of the arguments (named: it is used 2 times). -/
def res_main_v55 (V0 : Valuation τ sig (Elt F)) : (Proc.devRef .tc main_v55 : DevRef τ sig).ty.Contents (Elt F) :=
  Host.exp (subf (res_main_v48 V0) (broadcastInDim S32x8x100000 ![0, 1, 2] bcast_S32x8x1_S32x8x100000_0_1_2 (broadcastInDim S32x8x1 ![0, 1] bcast_S32x8_S32x8x1_0_1 (maximumf (broadcastInDim S32x8 ![] bcast_S_S32x8 (constant S_ .f32 0xFF800000#32)) (Host.reduce FloatOps.maximumf (res_main_v48 V0) (constant S_ .f32 0xFF800000#32) reducesTo_S32x8x100000_S32x8_d2 h_S_)))))

/-- The device's buffer contents before @main's first window. -/
def val0 (V0 : Valuation τ sig (Elt F)) : Valuation τ sig (Elt F) := V0
/-- The contents of `main_arg0` at this point of the program: the argument, unchanged. -/
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_c, main_c_0, main_v0, main_v1, main_v2, main_c_1, main_v3, main_v4, main_v5, main_v6, main_v7, main_v8, main_v9, main_v10, main_v11, main_v12, main_v13, main_c_2, main_v14, main_v15, main_c_3, main_v16, main_v17, main_c_4, main_v18, main_v19, main_v20, main_v21, main_c_5, main_v22]
set_option maxRecDepth 8192 in
/-- The buffers this list of operations writes. -/
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- The contents of `main_arg0` at this point of the program: the argument, unchanged. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
/-- The contents of `main_v8` at this point of the program. -/
theorem val0_1_main_v8 (V0 : Valuation τ sig (Elt F)) : val0_1 V0 (no_index (Proc.devRef .tc main_v8)) = res_main_v8 V0 := by
  unfold val0_1
  simp only [ops_part0_0]
  after_results_simp
  all_goals rfl
set_option maxRecDepth 8192 in
set_option maxHeartbeats 2000000 in
/-- The contents of `main_v10` at this point of the program. -/
theorem val0_1_main_v10 (V0 : Valuation τ sig (Elt F)) : val0_1 V0 (no_index (Proc.devRef .tc main_v10)) = res_main_v10 V0 := by
  unfold val0_1
  simp only [ops_part0_0]
  after_results_simp
  all_goals rfl
set_option maxRecDepth 8192 in
set_option maxHeartbeats 2000000 in
/-- The contents of `main_v21` at this point of the program. -/
theorem val0_1_main_v21 (V0 : Valuation τ sig (Elt F)) : val0_1 V0 (no_index (Proc.devRef .tc main_v21)) = res_main_v21 V0 := by
  unfold val0_1
  simp only [ops_part0_0]
  after_results_simp
  all_goals rfl
set_option maxRecDepth 8192 in
set_option maxHeartbeats 2000000 in
/-- The contents of `main_v22` at this point of the program. -/
theorem val0_1_main_v22 (V0 : Valuation τ sig (Elt F)) : val0_1 V0 (no_index (Proc.devRef .tc main_v22)) = broadcastInDim S32x8x100000 ![] bcast_S_S32x8x100000 (constantI S_ 64 32#64) := by
  unfold val0_1
  simp only [ops_part0_0]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v23, main_v24, main_v25, main_call0_v0, main_call0_c, main_call0_v1, main_call0_v2, main_call0_v3, main_call0_v4, main_call0_v5, main_call0_v6, main_call0_c_0, main_call0_v7, main_call0_v8, main_call0_c_1, main_call0_v9, main_call0_v10, main_call0_v11, main_call0_v12, main_call0_v13, main_call0_c_2, main_call0_v14, main_call0_v15, main_call0_c_3, main_call0_v16, main_call0_v17, main_call0_v18, main_call0_v19, main_call0_v20, main_call0_c_4]
set_option maxRecDepth 8192 in
/-- The buffers this list of operations writes. -/
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- The contents of `main_arg0` at this point of the program: the argument, unchanged. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- The contents of `main_v8` at this point of the program. -/
theorem val0_2_main_v8 (V0 : Valuation τ sig (Elt F)) : val0_2 V0 (no_index (Proc.devRef .tc main_v8)) = res_main_v8 V0 :=
  (val0_2_keep V0 main_v8 (by decide)).trans (val0_1_main_v8 V0)
/-- The contents of `main_v10` at this point of the program. -/
theorem val0_2_main_v10 (V0 : Valuation τ sig (Elt F)) : val0_2 V0 (no_index (Proc.devRef .tc main_v10)) = res_main_v10 V0 :=
  (val0_2_keep V0 main_v10 (by decide)).trans (val0_1_main_v10 V0)
set_option maxRecDepth 8192 in
set_option maxHeartbeats 2000000 in
/-- The contents of `main_call0_v1` at this point of the program. -/
theorem val0_2_main_call0_v1 (V0 : Valuation τ sig (Elt F)) : val0_2 V0 (no_index (Proc.devRef .tc main_call0_v1)) = res_main_call0_v1 V0 := by
  unfold val0_2
  simp only [ops_part0_1, TRef.binary, TRef.nullary, TRef.unary, TRef.toBuf, TRef.ofBuf, cast_eq]
  after_results_simp
  simp only [val0_1_main_v10, val0_1_main_v8] <;> rfl
set_option maxRecDepth 8192 in
set_option maxHeartbeats 2000000 in
/-- The contents of `main_call0_v19` at this point of the program. -/
theorem val0_2_main_call0_v19 (V0 : Valuation τ sig (Elt F)) : val0_2 V0 (no_index (Proc.devRef .tc main_call0_v19)) = res_main_call0_v19 V0 := by
  unfold val0_2
  simp only [ops_part0_1, TRef.binary, TRef.nullary, TRef.unary, TRef.toBuf, TRef.ofBuf, cast_eq]
  after_results_simp
  simp only [val0_1_main_v10, val0_1_main_v21, val0_1_main_v8, val0_1_main_v22] <;> rfl
set_option maxRecDepth 8192 in
set_option maxHeartbeats 2000000 in
/-- The contents of `main_call0_v20` at this point of the program. -/
theorem val0_2_main_call0_v20 (V0 : Valuation τ sig (Elt F)) : val0_2 V0 (no_index (Proc.devRef .tc main_call0_v20)) = res_main_call0_v20 V0 := by
  unfold val0_2
  simp only [ops_part0_1, TRef.binary, TRef.nullary, TRef.unary, TRef.toBuf, TRef.ofBuf, cast_eq]
  after_results_simp
  simp only [val0_1_main_v10, val0_1_main_v21, val0_1_main_v8, val0_1_main_v22] <;> rfl
set_option maxRecDepth 8192 in
set_option maxHeartbeats 2000000 in
/-- The contents of `main_call0_c_4` at this point of the program. -/
theorem val0_2_main_call0_c_4 (V0 : Valuation τ sig (Elt F)) : val0_2 V0 (no_index (Proc.devRef .tc main_call0_c_4)) = constantI S_ 32 26#32 := by
  unfold val0_2
  simp only [ops_part0_1, TRef.binary, TRef.nullary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call0_v21, main_call0_v22, main_call0_c_5, main_call0_v23, main_call0_v24, main_call0_v25, main_call0_v26, main_call0_v27, main_call0_c_6, main_call0_v28, main_call0_v29, main_call0_c_7, main_call0_v30, main_call0_v31, main_call0_v32, main_call0_v33, main_call0_v34, main_call0_v35, main_call0_v36, main_call0_v37, main_call0_c_8, main_call0_v38, main_call0_v39, main_call0_v40, main_call0_c_9, main_call0_v41, main_call0_v42, main_call0_c_10, main_call0_v43, main_call0_v44]
set_option maxRecDepth 8192 in
/-- The buffers this list of operations writes. -/
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
/-- The contents of `main_arg0` at this point of the program: the argument, unchanged. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- The contents of `main_v8` at this point of the program. -/
theorem val0_3_main_v8 (V0 : Valuation τ sig (Elt F)) : val0_3 V0 (no_index (Proc.devRef .tc main_v8)) = res_main_v8 V0 :=
  (val0_3_keep V0 main_v8 (by decide)).trans (val0_2_main_v8 V0)
/-- The contents of `main_v10` at this point of the program. -/
theorem val0_3_main_v10 (V0 : Valuation τ sig (Elt F)) : val0_3 V0 (no_index (Proc.devRef .tc main_v10)) = res_main_v10 V0 :=
  (val0_3_keep V0 main_v10 (by decide)).trans (val0_2_main_v10 V0)
/-- The contents of `main_call0_v1` at this point of the program. -/
theorem val0_3_main_call0_v1 (V0 : Valuation τ sig (Elt F)) : val0_3 V0 (no_index (Proc.devRef .tc main_call0_v1)) = res_main_call0_v1 V0 :=
  (val0_3_keep V0 main_call0_v1 (by decide)).trans (val0_2_main_call0_v1 V0)
set_option maxRecDepth 8192 in
set_option maxHeartbeats 2000000 in
/-- The contents of `main_call0_v40` at this point of the program. -/
theorem val0_3_main_call0_v40 (V0 : Valuation τ sig (Elt F)) : val0_3 V0 (no_index (Proc.devRef .tc main_call0_v40)) = res_main_call0_v40 V0 := by
  unfold val0_3
  simp only [ops_part0_2, TRef.binary, TRef.nullary, TRef.unary, TRef.toBuf, TRef.ofBuf, cast_eq]
  after_results_simp
  simp only [val0_2_main_call0_v1, val0_2_main_call0_v19, val0_2_main_call0_c_4, val0_2_main_call0_v20, val0_2_main_v10] <;> rfl
set_option maxRecDepth 8192 in
set_option maxHeartbeats 2000000 in
/-- The contents of `main_call0_v42` at this point of the program. -/
theorem val0_3_main_call0_v42 (V0 : Valuation τ sig (Elt F)) : val0_3 V0 (no_index (Proc.devRef .tc main_call0_v42)) = Host.shli (res_main_call0_v39 V0) (broadcastInDim S32x8x100000 ![] bcast_S_S32x8x100000 (constantI S_ 32 17#32)) := by
  unfold val0_3
  simp only [ops_part0_2, TRef.binary, TRef.nullary, TRef.unary, TRef.toBuf, TRef.ofBuf, cast_eq]
  after_results_simp
  simp only [val0_2_main_call0_v1, val0_2_main_call0_v19, val0_2_main_call0_c_4, val0_2_main_call0_v20] <;> rfl
set_option maxRecDepth 8192 in
set_option maxHeartbeats 2000000 in
/-- The contents of `main_call0_v44` at this point of the program. -/
theorem val0_3_main_call0_v44 (V0 : Valuation τ sig (Elt F)) : val0_3 V0 (no_index (Proc.devRef .tc main_call0_v44)) = Host.shrui (res_main_call0_v39 V0) (broadcastInDim S32x8x100000 ![] bcast_S_S32x8x100000 (constantI S_ 32 15#32)) := by
  unfold val0_3
  simp only [ops_part0_2, TRef.binary, TRef.nullary, TRef.unary, TRef.toBuf, TRef.ofBuf, cast_eq]
  after_results_simp
  simp only [val0_2_main_call0_v1, val0_2_main_call0_v19, val0_2_main_call0_c_4, val0_2_main_call0_v20] <;> rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call0_v45, main_call0_v46, main_call0_v47, main_call0_c_11, main_call0_v48, main_call0_v49, main_call0_c_12, main_call0_v50, main_call0_v51, main_call0_v52, main_call0_v53, main_call0_v54, main_call0_c_13, main_call0_v55, main_call0_v56, main_call0_c_14, main_call0_v57, main_call0_v58, main_call0_v59, main_call0_v60, main_call0_v61, main_call0_c_15, main_call0_v62, main_call0_v63, main_call0_c_16, main_call0_v64, main_call0_v65, main_call0_v66, main_call0_v67, main_call0_v68]
set_option maxRecDepth 8192 in
/-- The buffers this list of operations writes. -/
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
/-- The contents of `main_arg0` at this point of the program: the argument, unchanged. -/
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
/-- The contents of `main_v8` at this point of the program. -/
theorem val0_4_main_v8 (V0 : Valuation τ sig (Elt F)) : val0_4 V0 (no_index (Proc.devRef .tc main_v8)) = res_main_v8 V0 :=
  (val0_4_keep V0 main_v8 (by decide)).trans (val0_3_main_v8 V0)
/-- The contents of `main_v10` at this point of the program. -/
theorem val0_4_main_v10 (V0 : Valuation τ sig (Elt F)) : val0_4 V0 (no_index (Proc.devRef .tc main_v10)) = res_main_v10 V0 :=
  (val0_4_keep V0 main_v10 (by decide)).trans (val0_3_main_v10 V0)
/-- The contents of `main_call0_v1` at this point of the program. -/
theorem val0_4_main_call0_v1 (V0 : Valuation τ sig (Elt F)) : val0_4 V0 (no_index (Proc.devRef .tc main_call0_v1)) = res_main_call0_v1 V0 :=
  (val0_4_keep V0 main_call0_v1 (by decide)).trans (val0_3_main_call0_v1 V0)
set_option maxRecDepth 8192 in
set_option maxHeartbeats 2000000 in
/-- The contents of `main_call0_v61` at this point of the program. -/
theorem val0_4_main_call0_v61 (V0 : Valuation τ sig (Elt F)) : val0_4 V0 (no_index (Proc.devRef .tc main_call0_v61)) = res_main_call0_v61 V0 := by
  unfold val0_4
  simp only [ops_part0_3, TRef.binary, TRef.nullary, TRef.unary, TRef.toBuf, TRef.ofBuf, cast_eq]
  after_results_simp
  simp only [val0_3_main_call0_v44, val0_3_main_call0_v42, val0_3_main_call0_v40] <;> rfl
set_option maxRecDepth 8192 in
set_option maxHeartbeats 2000000 in
/-- The contents of `main_call0_v67` at this point of the program. -/
theorem val0_4_main_call0_v67 (V0 : Valuation τ sig (Elt F)) : val0_4 V0 (no_index (Proc.devRef .tc main_call0_v67)) = xori (res_main_call0_v61 V0) (ori (Host.shli (res_main_call0_v60 V0) (broadcastInDim S32x8x100000 ![] bcast_S_S32x8x100000 (constantI S_ 32 24#32))) (Host.shrui (res_main_call0_v60 V0) (broadcastInDim S32x8x100000 ![] bcast_S_S32x8x100000 (constantI S_ 32 8#32)))) := by
  unfold val0_4
  simp only [ops_part0_3, TRef.binary, TRef.nullary, TRef.unary, TRef.toBuf, TRef.ofBuf, cast_eq]
  after_results_simp
  simp only [val0_3_main_call0_v44, val0_3_main_call0_v42, val0_3_main_call0_v40] <;> rfl
set_option maxRecDepth 8192 in
set_option maxHeartbeats 2000000 in
/-- The contents of `main_call0_v68` at this point of the program. -/
theorem val0_4_main_call0_v68 (V0 : Valuation τ sig (Elt F)) : val0_4 V0 (no_index (Proc.devRef .tc main_call0_v68)) = broadcastInDim S32x8x100000 ![] bcast_S_S32x8x100000 (res_main_call0_v1 V0) := by
  unfold val0_4
  simp only [ops_part0_3, TRef.binary, TRef.nullary, TRef.unary, TRef.toBuf, TRef.ofBuf, cast_eq]
  after_results_simp
  simp only [val0_3_main_call0_v1] <;> rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call0_v69, main_call0_v70, main_call0_v71, main_call0_c_17, main_call0_v72, main_call0_v73, main_call0_v74, main_call0_c_18, main_call0_v75, main_call0_v76, main_call0_c_19, main_call0_v77, main_call0_v78, main_call0_v79, main_call0_v80, main_call0_v81, main_call0_c_20, main_call0_v82, main_call0_v83, main_call0_c_21, main_call0_v84, main_call0_v85, main_call0_v86, main_call0_v87, main_call0_v88, main_call0_c_22, main_call0_v89, main_call0_v90, main_call0_c_23, main_call0_v91]
set_option maxRecDepth 8192 in
/-- The buffers this list of operations writes. -/
theorem ops_part0_4_writes : (ops_part0_4 : List (HloOp τ sig (Elt F))).Forall fun op => op.writes ⊆ (ops_part0_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
/-- The contents of `main_arg0` at this point of the program: the argument, unchanged. -/
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
/-- The contents of `main_v8` at this point of the program. -/
theorem val0_5_main_v8 (V0 : Valuation τ sig (Elt F)) : val0_5 V0 (no_index (Proc.devRef .tc main_v8)) = res_main_v8 V0 :=
  (val0_5_keep V0 main_v8 (by decide)).trans (val0_4_main_v8 V0)
/-- The contents of `main_v10` at this point of the program. -/
theorem val0_5_main_v10 (V0 : Valuation τ sig (Elt F)) : val0_5 V0 (no_index (Proc.devRef .tc main_v10)) = res_main_v10 V0 :=
  (val0_5_keep V0 main_v10 (by decide)).trans (val0_4_main_v10 V0)
/-- The contents of `main_call0_v1` at this point of the program. -/
theorem val0_5_main_call0_v1 (V0 : Valuation τ sig (Elt F)) : val0_5 V0 (no_index (Proc.devRef .tc main_call0_v1)) = res_main_call0_v1 V0 :=
  (val0_5_keep V0 main_call0_v1 (by decide)).trans (val0_4_main_call0_v1 V0)
set_option maxRecDepth 8192 in
set_option maxHeartbeats 2000000 in
/-- The contents of `main_call0_v87` at this point of the program. -/
theorem val0_5_main_call0_v87 (V0 : Valuation τ sig (Elt F)) : val0_5 V0 (no_index (Proc.devRef .tc main_call0_v87)) = res_main_call0_v87 V0 := by
  unfold val0_5
  simp only [ops_part0_4, TRef.binary, TRef.nullary, TRef.unary, TRef.toBuf, TRef.ofBuf, cast_eq]
  after_results_simp
  simp only [val0_4_main_v8, val0_4_main_call0_v67, val0_4_main_call0_v68, val0_4_main_call0_v61] <;> rfl
set_option maxRecDepth 8192 in
set_option maxHeartbeats 2000000 in
/-- The contents of `main_call0_v88` at this point of the program. -/
theorem val0_5_main_call0_v88 (V0 : Valuation τ sig (Elt F)) : val0_5 V0 (no_index (Proc.devRef .tc main_call0_v88)) = res_main_call0_v88 V0 := by
  unfold val0_5
  simp only [ops_part0_4, TRef.binary, TRef.nullary, TRef.unary, TRef.toBuf, TRef.ofBuf, cast_eq]
  after_results_simp
  simp only [val0_4_main_v8, val0_4_main_call0_v67, val0_4_main_call0_v68, val0_4_main_call0_v61] <;> rfl
set_option maxRecDepth 8192 in
set_option maxHeartbeats 2000000 in
/-- The contents of `main_call0_v90` at this point of the program. -/
theorem val0_5_main_call0_v90 (V0 : Valuation τ sig (Elt F)) : val0_5 V0 (no_index (Proc.devRef .tc main_call0_v90)) = Host.shli (res_main_call0_v87 V0) (broadcastInDim S32x8x100000 ![] bcast_S_S32x8x100000 (constantI S_ 32 26#32)) := by
  unfold val0_5
  simp only [ops_part0_4, TRef.binary, TRef.nullary, TRef.unary, TRef.toBuf, TRef.ofBuf, cast_eq]
  after_results_simp
  simp only [val0_4_main_v8, val0_4_main_call0_v67, val0_4_main_call0_v68, val0_4_main_call0_v61] <;> rfl
set_option maxRecDepth 8192 in
set_option maxHeartbeats 2000000 in
/-- The contents of `main_call0_v91` at this point of the program. -/
theorem val0_5_main_call0_v91 (V0 : Valuation τ sig (Elt F)) : val0_5 V0 (no_index (Proc.devRef .tc main_call0_v91)) = broadcastInDim S32x8x100000 ![] bcast_S_S32x8x100000 (constantI S_ 32 6#32) := by
  unfold val0_5
  simp only [ops_part0_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call0_v92, main_call0_v93, main_call0_v94, main_call0_v95, main_call0_c_24, main_call0_v96, main_call0_v97, main_call0_c_25, main_call0_v98, main_call0_v99, main_call0_v100, main_call0_v101, main_call0_v102, main_call0_v103, main_call0_v104, main_call0_v105, main_call0_c_26, main_call0_v106, main_call0_v107, main_call0_v108, main_call0_c_27, main_call0_v109, main_call0_v110, main_call0_c_28, main_call0_v111, main_call0_v112, main_call0_v113, main_call0_v114, main_call0_v115, main_call0_c_29]
set_option maxRecDepth 8192 in
/-- The buffers this list of operations writes. -/
theorem ops_part0_5_writes : (ops_part0_5 : List (HloOp τ sig (Elt F))).Forall fun op => op.writes ⊆ (ops_part0_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
/-- The contents of `main_arg0` at this point of the program: the argument, unchanged. -/
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
/-- The contents of `main_v8` at this point of the program. -/
theorem val0_6_main_v8 (V0 : Valuation τ sig (Elt F)) : val0_6 V0 (no_index (Proc.devRef .tc main_v8)) = res_main_v8 V0 :=
  (val0_6_keep V0 main_v8 (by decide)).trans (val0_5_main_v8 V0)
/-- The contents of `main_v10` at this point of the program. -/
theorem val0_6_main_v10 (V0 : Valuation τ sig (Elt F)) : val0_6 V0 (no_index (Proc.devRef .tc main_v10)) = res_main_v10 V0 :=
  (val0_6_keep V0 main_v10 (by decide)).trans (val0_5_main_v10 V0)
/-- The contents of `main_call0_v1` at this point of the program. -/
theorem val0_6_main_call0_v1 (V0 : Valuation τ sig (Elt F)) : val0_6 V0 (no_index (Proc.devRef .tc main_call0_v1)) = res_main_call0_v1 V0 :=
  (val0_6_keep V0 main_call0_v1 (by decide)).trans (val0_5_main_call0_v1 V0)
set_option maxRecDepth 8192 in
set_option maxHeartbeats 2000000 in
/-- The contents of `main_call0_v114` at this point of the program. -/
theorem val0_6_main_call0_v114 (V0 : Valuation τ sig (Elt F)) : val0_6 V0 (no_index (Proc.devRef .tc main_call0_v114)) = res_main_call0_v114 V0 := by
  unfold val0_6
  simp only [ops_part0_5, TRef.binary, TRef.nullary, TRef.unary, TRef.toBuf, TRef.ofBuf, cast_eq]
  after_results_simp
  simp only [val0_5_main_v10, val0_5_main_call0_v91, val0_5_main_call0_v87, val0_5_main_call0_v90, val0_5_main_call0_v88, val0_5_main_v8] <;> rfl
set_option maxRecDepth 8192 in
set_option maxHeartbeats 2000000 in
/-- The contents of `main_call0_v115` at this point of the program. -/
theorem val0_6_main_call0_v115 (V0 : Valuation τ sig (Elt F)) : val0_6 V0 (no_index (Proc.devRef .tc main_call0_v115)) = res_main_call0_v115 V0 := by
  unfold val0_6
  simp only [ops_part0_5, TRef.binary, TRef.nullary, TRef.unary, TRef.toBuf, TRef.ofBuf, cast_eq]
  after_results_simp
  simp only [val0_5_main_v10, val0_5_main_call0_v91, val0_5_main_call0_v87, val0_5_main_call0_v90, val0_5_main_call0_v88, val0_5_main_v8] <;> rfl
set_option maxRecDepth 8192 in
set_option maxHeartbeats 2000000 in
/-- The contents of `main_call0_c_29` at this point of the program. -/
theorem val0_6_main_call0_c_29 (V0 : Valuation τ sig (Elt F)) : val0_6 V0 (no_index (Proc.devRef .tc main_call0_c_29)) = constantI S_ 32 29#32 := by
  unfold val0_6
  simp only [ops_part0_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call0_v116, main_call0_v117, main_call0_c_30, main_call0_v118, main_call0_v119, main_call0_v120, main_call0_v121, main_call0_v122, main_call0_c_31, main_call0_v123, main_call0_v124, main_call0_c_32, main_call0_v125, main_call0_v126, main_call0_v127, main_call0_v128, main_call0_v129, main_call0_c_33, main_call0_v130, main_call0_v131, main_call0_c_34, main_call0_v132, main_call0_v133, main_call0_v134, main_call0_v135, main_call0_v136, main_call0_v137, main_call0_v138, main_call0_v139, main_call0_c_35]
set_option maxRecDepth 8192 in
/-- The buffers this list of operations writes. -/
theorem ops_part0_6_writes : (ops_part0_6 : List (HloOp τ sig (Elt F))).Forall fun op => op.writes ⊆ (ops_part0_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
/-- The contents of `main_arg0` at this point of the program: the argument, unchanged. -/
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
/-- The contents of `main_v8` at this point of the program. -/
theorem val0_7_main_v8 (V0 : Valuation τ sig (Elt F)) : val0_7 V0 (no_index (Proc.devRef .tc main_v8)) = res_main_v8 V0 :=
  (val0_7_keep V0 main_v8 (by decide)).trans (val0_6_main_v8 V0)
/-- The contents of `main_call0_v1` at this point of the program. -/
theorem val0_7_main_call0_v1 (V0 : Valuation τ sig (Elt F)) : val0_7 V0 (no_index (Proc.devRef .tc main_call0_v1)) = res_main_call0_v1 V0 :=
  (val0_7_keep V0 main_call0_v1 (by decide)).trans (val0_6_main_call0_v1 V0)
set_option maxRecDepth 8192 in
set_option maxHeartbeats 2000000 in
/-- The contents of `main_call0_v137` at this point of the program. -/
theorem val0_7_main_call0_v137 (V0 : Valuation τ sig (Elt F)) : val0_7 V0 (no_index (Proc.devRef .tc main_call0_v137)) = addi (res_main_call0_v129 V0) (broadcastInDim S32x8x100000 ![] bcast_S_S32x8x100000 (res_main_v10 V0)) := by
  unfold val0_7
  simp only [ops_part0_6, TRef.binary, TRef.nullary, TRef.unary, TRef.toBuf, TRef.ofBuf, cast_eq]
  after_results_simp
  simp only [val0_6_main_v10, val0_6_main_call0_v114, val0_6_main_call0_c_29, val0_6_main_call0_v115] <;> rfl
set_option maxRecDepth 8192 in
set_option maxHeartbeats 2000000 in
/-- The contents of `main_call0_v139` at this point of the program. -/
theorem val0_7_main_call0_v139 (V0 : Valuation τ sig (Elt F)) : val0_7 V0 (no_index (Proc.devRef .tc main_call0_v139)) = addi (xori (res_main_call0_v129 V0) (ori (Host.shli (res_main_call0_v128 V0) (broadcastInDim S32x8x100000 ![] bcast_S_S32x8x100000 (constantI S_ 32 24#32))) (Host.shrui (res_main_call0_v128 V0) (broadcastInDim S32x8x100000 ![] bcast_S_S32x8x100000 (constantI S_ 32 8#32))))) (broadcastInDim S32x8x100000 ![] bcast_S_S32x8x100000 (res_main_call0_v1 V0)) := by
  unfold val0_7
  simp only [ops_part0_6, TRef.binary, TRef.nullary, TRef.unary, TRef.toBuf, TRef.ofBuf, cast_eq]
  after_results_simp
  simp only [val0_6_main_call0_v1, val0_6_main_call0_v114, val0_6_main_call0_c_29, val0_6_main_call0_v115] <;> rfl
set_option maxRecDepth 8192 in
set_option maxHeartbeats 2000000 in
/-- The contents of `main_call0_c_35` at this point of the program. -/
theorem val0_7_main_call0_c_35 (V0 : Valuation τ sig (Elt F)) : val0_7 V0 (no_index (Proc.devRef .tc main_call0_c_35)) = constantI S_ 32 4#32 := by
  unfold val0_7
  simp only [ops_part0_6, TRef.binary, TRef.nullary, TRef.unary, TRef.toBuf, TRef.ofBuf, cast_eq]
  after_results_simp
  all_goals rfl

/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call0_v140, main_call0_v141, main_call0_v142, main_call0_c_36, main_call0_v143, main_call0_v144, main_call0_c_37, main_call0_v145, main_call0_v146, main_call0_v147, main_call0_v148, main_call0_v149, main_call0_c_38, main_call0_v150, main_call0_v151, main_call0_c_39, main_call0_v152, main_call0_v153, main_call0_v154, main_call0_v155, main_call0_v156, main_call0_c_40, main_call0_v157, main_call0_v158, main_call0_c_41, main_call0_v159, main_call0_v160, main_call0_v161, main_call0_v162, main_call0_v163]
set_option maxRecDepth 8192 in
/-- The buffers this list of operations writes. -/
theorem ops_part0_7_writes : (ops_part0_7 : List (HloOp τ sig (Elt F))).Forall fun op => op.writes ⊆ (ops_part0_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
/-- The contents of `main_arg0` at this point of the program: the argument, unchanged. -/
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
/-- The contents of `main_v8` at this point of the program. -/
theorem val0_8_main_v8 (V0 : Valuation τ sig (Elt F)) : val0_8 V0 (no_index (Proc.devRef .tc main_v8)) = res_main_v8 V0 :=
  (val0_8_keep V0 main_v8 (by decide)).trans (val0_7_main_v8 V0)
/-- The contents of `main_call0_v1` at this point of the program. -/
theorem val0_8_main_call0_v1 (V0 : Valuation τ sig (Elt F)) : val0_8 V0 (no_index (Proc.devRef .tc main_call0_v1)) = res_main_call0_v1 V0 :=
  (val0_8_keep V0 main_call0_v1 (by decide)).trans (val0_7_main_call0_v1 V0)
set_option maxRecDepth 8192 in
set_option maxHeartbeats 2000000 in
/-- The contents of `main_call0_v162` at this point of the program. -/
theorem val0_8_main_call0_v162 (V0 : Valuation τ sig (Elt F)) : val0_8 V0 (no_index (Proc.devRef .tc main_call0_v162)) = res_main_call0_v162 V0 := by
  unfold val0_8
  simp only [ops_part0_7, TRef.binary, TRef.nullary, TRef.unary, TRef.toBuf, TRef.ofBuf, cast_eq]
  after_results_simp
  simp only [val0_7_main_call0_c_35, val0_7_main_call0_v139, val0_7_main_call0_v137] <;> rfl
set_option maxRecDepth 8192 in
set_option maxHeartbeats 2000000 in
/-- The contents of `main_call0_v163` at this point of the program. -/
theorem val0_8_main_call0_v163 (V0 : Valuation τ sig (Elt F)) : val0_8 V0 (no_index (Proc.devRef .tc main_call0_v163)) = res_main_call0_v163 V0 := by
  unfold val0_8
  simp only [ops_part0_7, TRef.binary, TRef.nullary, TRef.unary, TRef.toBuf, TRef.ofBuf, cast_eq]
  after_results_simp
  simp only [val0_7_main_call0_c_35, val0_7_main_call0_v139, val0_7_main_call0_v137] <;> rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call0_c_42, main_call0_v164, main_call0_v165, main_call0_c_43, main_call0_v166, main_call0_v167, main_call0_v168, main_call0_v169, main_call0_v170, main_v26_0, main_call0_v172, main_call0_v173, main_call0_c_44, main_call0_v174, main_v26_1, main_v27, main_c_6, main_v28, main_v29, main_c_7, main_v30, main_v31, main_v32, main_cst, main_v33, main_v34, main_cst_8, main_v35, main_v36, main_cst_9]
set_option maxRecDepth 8192 in
/-- The buffers this list of operations writes. -/
theorem ops_part0_8_writes : (ops_part0_8 : List (HloOp τ sig (Elt F))).Forall fun op => op.writes ⊆ (ops_part0_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
/-- The contents of `main_arg0` at this point of the program: the argument, unchanged. -/
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
set_option maxRecDepth 8192 in
set_option maxHeartbeats 2000000 in
/-- The contents of `main_v36` at this point of the program. -/
theorem val0_9_main_v36 (V0 : Valuation τ sig (Elt F)) : val0_9 V0 (no_index (Proc.devRef .tc main_v36)) = mulf (subf (bitcastToFloat (F := F) .f32 (ori (Host.shrui (xori (addi (res_main_call0_v163 V0) (broadcastInDim S32x8x100000 ![] bcast_S_S32x8x100000 (res_main_call0_v1 V0))) (addi (addi (xori (res_main_call0_v163 V0) (ori (Host.shli (res_main_call0_v162 V0) (broadcastInDim S32x8x100000 ![] bcast_S_S32x8x100000 (constantI S_ 32 6#32))) (Host.shrui (res_main_call0_v162 V0) (broadcastInDim S32x8x100000 ![] bcast_S_S32x8x100000 (constantI S_ 32 26#32))))) (broadcastInDim S32x8x100000 ![] bcast_S_S32x8x100000 (res_main_v8 V0))) (broadcastInDim S32x8x100000 ![] bcast_S_S32x8x100000 (constantI S_ 32 5#32)))) (broadcastInDim S32x8x100000 ![] bcast_S_S32x8x100000 (constantI S_ 32 9#32))) (broadcastInDim S32x8x100000 ![] bcast_S_S32x8x100000 (constantI S_ 32 1065353216#32)))) (broadcastInDim S32x8x100000 ![] bcast_S_S32x8x100000 (constant S_ .f32 0x3F800000#32))) (broadcastInDim S32x8x100000 ![] bcast_S_S32x8x100000 (constant S_ .f32 0x3F800000#32)) := by
  unfold val0_9
  simp only [ops_part0_8, TRef.binary, TRef.nullary, TRef.unary, TRef.toBuf, TRef.ofBuf, cast_eq]
  after_results_simp
  simp only [val0_8_main_v8, val0_8_main_call0_v162, val0_8_main_call0_v163, val0_8_main_call0_v1] <;> rfl
set_option maxRecDepth 8192 in
set_option maxHeartbeats 2000000 in
/-- The contents of `main_cst_9` at this point of the program. -/
theorem val0_9_main_cst_9 (V0 : Valuation τ sig (Elt F)) : val0_9 V0 (no_index (Proc.devRef .tc main_cst_9)) = constant S_ .f32 0x2B8CBCCC#32 := by
  unfold val0_9
  simp only [ops_part0_8, TRef.binary, TRef.nullary, TRef.unary, TRef.toBuf, TRef.ofBuf, cast_eq]
  after_results_simp
  all_goals rfl

/-- The device's buffer contents after @main's first 1 window. -/
def val1 (V0 : Valuation τ sig (Elt F)) : Valuation τ sig (Elt F) := after ops_part0_9 (val0_9 V0)
/-- The buffers that window `ops_part0_9`'s operations write. -/
abbrev ops_part0_9_W : List (Ref sig .tc) := [main_v37, main_v38, main_cst_10, main_v39, main_v40, main_v41, main_v42, main_v43, main_v44, main_v45, main_v46]
set_option maxRecDepth 8192 in
/-- The buffers this list of operations writes. -/
theorem ops_part0_9_writes : (ops_part0_9 : List (HloOp τ sig (Elt F))).Forall fun op => op.writes ⊆ (ops_part0_9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_9` does not write keeps its contents through it. -/
theorem val1_keep (V0 : Valuation τ sig (Elt F)) (r : Ref sig .tc) (h : r ∉ ops_part0_9_W) :
    val1 V0 (Proc.devRef .tc r) = val0_9 V0 (Proc.devRef .tc r) :=
  after_of_writes_sub ops_part0_9 _ ops_part0_9_writes h
/-- The contents of `main_arg0` at this point of the program: the argument, unchanged. -/
theorem val1_main_arg0 (V0 : Valuation τ sig (Elt F)) : val1 V0 (no_index (Proc.devRef .tc main_arg0)) = V0 (Proc.devRef .tc main_arg0) :=
  (val1_keep V0 main_arg0 (by decide)).trans (val0_9_main_arg0 V0)
set_option maxRecDepth 8192 in
set_option maxHeartbeats 1100000 in
/-- The contents of `main_v46` at this point of the program. -/
theorem val1_main_v46 (V0 : Valuation τ sig (Elt F)) : val1 V0 (no_index (Proc.devRef .tc main_v46)) = addf (Host.negf (Host.log (Host.negf (Host.log (maximumf (broadcastInDim S32x8x100000 ![] bcast_S_S32x8x100000 (constant S_ .f32 0x2B8CBCCC#32)) (addf (mulf (subf (bitcastToFloat (F := F) .f32 (ori (Host.shrui (xori (addi (res_main_call0_v163 V0) (broadcastInDim S32x8x100000 ![] bcast_S_S32x8x100000 (res_main_call0_v1 V0))) (addi (addi (xori (res_main_call0_v163 V0) (ori (Host.shli (res_main_call0_v162 V0) (broadcastInDim S32x8x100000 ![] bcast_S_S32x8x100000 (constantI S_ 32 6#32))) (Host.shrui (res_main_call0_v162 V0) (broadcastInDim S32x8x100000 ![] bcast_S_S32x8x100000 (constantI S_ 32 26#32))))) (broadcastInDim S32x8x100000 ![] bcast_S_S32x8x100000 (res_main_v8 V0))) (broadcastInDim S32x8x100000 ![] bcast_S_S32x8x100000 (constantI S_ 32 5#32)))) (broadcastInDim S32x8x100000 ![] bcast_S_S32x8x100000 (constantI S_ 32 9#32))) (broadcastInDim S32x8x100000 ![] bcast_S_S32x8x100000 (constantI S_ 32 1065353216#32)))) (broadcastInDim S32x8x100000 ![] bcast_S_S32x8x100000 (constant S_ .f32 0x3F800000#32))) (broadcastInDim S32x8x100000 ![] bcast_S_S32x8x100000 (constant S_ .f32 0x3F800000#32))) (broadcastInDim S32x8x100000 ![] bcast_S_S32x8x100000 (constant S_ .f32 0x2B8CBCCC#32)))))))) (broadcastInDim S32x8x100000 ![0, 1, 2] bcast_S32x1x100000_S32x8x100000_0_1_2 (V0 (Proc.devRef .tc main_arg0))) := by
  unfold val1
  simp only [ops_part0_9]
  after_results_simp
  simp only [val0_9_main_arg0, val0_9_main_cst_9, val0_9_main_v36] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_11, main_v47, main_v48, main_cst_12, main_v49, main_cst_13, main_v50, main_v51, main_v52, main_v53, main_v54, main_v55, main_cst_14, main_v56, main_v57, main_v58, main_v59, main_cst_15, main_v60, main_v61]
set_option maxRecDepth 8192 in
/-- The buffers this list of operations writes. -/
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- The contents of `main_arg0` at this point of the program: the argument, unchanged. -/
theorem val2_main_arg0 (V0 : Valuation τ sig (Elt F)) : val2 V0 (no_index (Proc.devRef .tc main_arg0)) = V0 (Proc.devRef .tc main_arg0) :=
  (val2_keep V0 main_arg0 (by decide)).trans (val1_main_arg0 V0)
set_option maxRecDepth 8192 in
set_option maxHeartbeats 2000000 in
/-- The contents of `main_v61` at this point of the program. -/
theorem val2_main_v61 (V0 : Valuation τ sig (Elt F)) : val2 V0 (no_index (Proc.devRef .tc main_v61)) = broadcastInDim S32x1x100000 ![0, 2] bcast_S32x100000_S32x1x100000_0_2 (Host.reduce FloatOps.maximumf (Host.divf (res_main_v55 V0) (broadcastInDim S32x8x100000 ![0, 1, 2] bcast_S32x8x1_S32x8x100000_0_1_2 (broadcastInDim S32x8x1 ![0, 1] bcast_S32x8_S32x8x1_0_1 (Host.reduceAdd (res_main_v55 V0) (constant S_ .f32 0x00000000#32) reducesTo_S32x8x100000_S32x8_d2 h_S_)))) (constant S_ .f32 0xFF800000#32) reducesTo_S32x8x100000_S32x100000_d1 h_S_) := by
  unfold val2
  simp only [ops_part1]
  after_results_simp
  simp only [val1_main_v46] <;> rfl

/-- The contents after all operations are those after the last list. -/
theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = broadcastInDim S32x1x100000 ![0, 2] bcast_S32x100000_S32x1x100000_0_2 (Host.reduce FloatOps.maximumf (Host.divf (res_main_v55 (launchContents m c)) (broadcastInDim S32x8x100000 ![0, 1, 2] bcast_S32x8x1_S32x8x100000_0_1_2 (broadcastInDim S32x8x1 ![0, 1] bcast_S32x8_S32x8x1_0_1 (Host.reduceAdd (res_main_v55 (launchContents m c)) (constant S_ .f32 0x00000000#32) reducesTo_S32x8x100000_S32x8_d2 h_S_)))) (constant S_ .f32 0xFF800000#32) reducesTo_S32x8x100000_S32x100000_d1 h_S_)
      ∧ r.2.mem ((c.tc : Thread nD τ).loc main_arg0) = m ((c.tc : Thread nD τ).loc main_arg0) :=
  (θ_run defs _ _).mono (fun _ h c => ⟨(h c main_v61).trans ((congrFun (after_ops (launchContents m c)) (Proc.devRef .tc main_v61)).trans (val2_main_v61 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.ReferenceIdeal.Value

end
-- ==== Proof.Ref.Frame.lean ====
/- The reference's frame: it runs, leaves its argument as it was, and the machine it runs on has no semaphore whose
   counter could differ from zero. -/
module

public import proofs.«01_k».proof.Proof.Ref.Run
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.SL.Sem

variable {F : FTy → Type} [FloatOps F]

/-- From any memory with zero counters the reference ends, its argument unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0))
      ∧ r.2.sem = fun _ => 0 :=
  (θ_run defs _ _).mono (fun r h => ⟨fun c => (h c).2, sem_eq_zero_of_no_sems (by decide) r.2⟩) (run m ρ)

end Cert.ReferenceIdeal.Value

end
-- ==== Proof.Math.Row.lean ====
/- A row of logits, continued with minus infinity past its end. -/
module

public import Idealize.ShloMosaic.PureOps.Ideal
public import Idealize.ShloMosaic.Lib.ValueLayout

@[expose] public section

noncomputable section

namespace Cert.Row

open Idealize.ShloMosaic

/-- Lane `n` of row `b` of the logits `A`; minus infinity from lane 100000 on. -/
def at' (A : (⟨3, ![32, 1, 100000]⟩ : Shape).Idx → EReal) (b : Fin 32) (n : ℕ) : EReal :=
  if h : n < 100000 then A (ValueIdx.ix3 b (0 : Fin 1) ⟨n, h⟩) else ⊥

variable (A : (⟨3, ![32, 1, 100000]⟩ : Shape).Idx → EReal) (b : Fin 32)

/-- Inside the row, lane `n` is the logit. -/
theorem at_lt (n : Fin 100000) : at' A b n.val = A (ValueIdx.ix3 b (0 : Fin 1) n) := dif_pos n.isLt
/-- Past the row, it is minus infinity. -/
theorem at_ge (n : ℕ) (h : 100000 ≤ n) : at' A b n = ⊥ := dif_neg (not_lt.2 h)

/-- Each row has no plus infinity, and some lane that is not minus infinity. -/
def Finite : Prop := ∀ b : Fin 32, (∀ n : Fin 100000, A (ValueIdx.ix3 b (0 : Fin 1) n) ≠ ⊤)
  ∧ ∃ n : Fin 100000, A (ValueIdx.ix3 b (0 : Fin 1) n) ≠ ⊥

variable {A}

/-- No lane of such a row is plus infinity, padding included. -/
theorem Finite.ne_top (h : Finite A) (n : ℕ) : at' A b n ≠ ⊤ := by
  by_cases hn : n < 100000
  · exact (at_lt A b ⟨n, hn⟩).trans_ne ((h b).1 ⟨n, hn⟩)
  · rw [at_ge A b n (not_lt.1 hn)]; exact bot_ne_top

/-- Some lane of such a row is not minus infinity. -/
theorem Finite.exists_ne_bot (h : Finite A) : ∃ n, at' A b n ≠ ⊥ := by
  obtain ⟨n, hn⟩ := (h b).2
  exact ⟨n.val, (at_lt A b n).trans_ne hn⟩

end Cert.Row

end
-- ==== Proof.Math.Bits.lean ====
/- The bit patterns and the shift that both programs use, as extended reals and as words. -/
module

public import Idealize.ShloMosaic.PureOps.Ideal.Laws
public import Idealize.ShloMosaic.Lib.IdealHost

@[expose] public section

noncomputable section

namespace Cert.Pattern

open Idealize.ShloMosaic

/-- The pattern of minus infinity. -/
theorem minus_inf : Ideal.ofBits .f32 0xFF800000#32 = ⊥ := by simp [Ideal.ofBits, Ideal.ieee]

/-- The pattern of plus infinity. -/
theorem plus_inf : Ideal.ofBits .f32 0x7F800000#32 = ⊤ := by simp [Ideal.ofBits, Ideal.ieee]

/-- The pattern of one half. -/
theorem half : Ideal.ofBits .f32 0x3F000000#32 = ((1 / 2 : ℝ) : EReal) := by
  simp [Ideal.ofBits, Ideal.ieee, -EReal.coe_mul]; norm_num

/-- The pattern of two. -/
theorem two : Ideal.ofBits .f32 0x40000000#32 = ((2 : ℝ) : EReal) := by
  simp [Ideal.ofBits, Ideal.ieee, -EReal.coe_mul]; norm_num

/-- The pattern of thirty-two. -/
theorem thirtyTwo : Ideal.ofBits .f32 0x42000000#32 = ((32 : ℝ) : EReal) := by
  simp [Ideal.ofBits, Ideal.ieee, -EReal.coe_mul]; norm_num

/-- A word shifted right by nine. -/
theorem shift9 (w : BitVec 32) : IntOp.shrui .vector w 9#32 = w >>> 9 := if_pos (by decide)

end Cert.Pattern

end
-- ==== Proof.Math.Uniform.lean ====
/- The uniform value that both programs make of a drawn word, as a real number: 23 of the word's bits are the fraction of a
   value in [1, 2), from which 1 is taken and a small positive constant is added. It lies strictly between 0 and 1. -/
module

public import Idealize.ShloMosaic.PureOps.Ideal.Laws
public import Idealize.ShloMosaic.Lib.IdealHost

@[expose] public section

noncomputable section

namespace Cert.Uniform

open Idealize.ShloMosaic

/-- The small constant: the f32 nearest to 10⁻¹². -/
def tiny : ℝ := (9223372 : ℝ) * (2 : ℝ) ^ (-63 : ℤ)

/-- The smallest drawn value is positive. -/
theorem tiny_pos : 0 < tiny := by unfold tiny; positivity

/-- It is less than the spacing of the drawn values. -/
theorem tiny_lt : tiny < 1 / 2 ^ 23 := by unfold tiny; norm_num

/-- It is the value of its bit pattern. -/
theorem ofBits_tiny : Ideal.ofBits .f32 0x2B8CBCCC#32 = ((tiny : ℝ) : EReal) := by
  unfold tiny
  simp [Ideal.ofBits, Ideal.ieee, -EReal.coe_mul]

/-- The uniform value of the word `w`. -/
def uniform (w : BitVec 32) : ℝ := ((w >>> 9).toNat : ℝ) / 2 ^ 23 + tiny

/-- The upper twenty-three bits of a word are less than 2^23. -/
theorem frac_lt (w : BitVec 32) : (w >>> 9).toNat < 2 ^ 23 := by
  rw [BitVec.toNat_ushiftRight, Nat.shiftRight_eq_div_pow]
  have := w.isLt
  omega

/-- The drawn value is positive. -/
theorem uniform_pos (w : BitVec 32) : 0 < uniform w := by
  unfold uniform
  have := tiny_pos
  positivity

/-- The drawn value is less than one. -/
theorem uniform_lt_one (w : BitVec 32) : uniform w < 1 := by
  have h : (((w >>> 9).toNat : ℕ) : ℝ) ≤ 2 ^ 23 - 1 := by
    have := frac_lt w
    have h2 : (w >>> 9).toNat ≤ 2 ^ 23 - 1 := by omega
    calc (((w >>> 9).toNat : ℕ) : ℝ) ≤ ((2 ^ 23 - 1 : ℕ) : ℝ) := by exact_mod_cast h2
      _ = 2 ^ 23 - 1 := by norm_num
  have h2 := tiny_lt
  unfold uniform
  have h3 : (((w >>> 9).toNat : ℕ) : ℝ) / 2 ^ 23 ≤ (2 ^ 23 - 1) / 2 ^ 23 := by gcongr
  have h4 : ((2 : ℝ) ^ 23 - 1) / 2 ^ 23 = 1 - 1 / 2 ^ 23 := by norm_num
  linarith

/-- Its logarithm, which is negative. -/
def ulog (w : BitVec 32) : ℝ := Real.log (uniform w)

/-- So its logarithm is negative. -/
theorem ulog_neg (w : BitVec 32) : ulog w < 0 := Real.log_neg (uniform_pos w) (uniform_lt_one w)

/-- The bit pattern as a number: the exponent field of one, then the twenty-three bits. -/
theorem pattern_toNat (w : BitVec 32) : ((w >>> 9) ||| 1065353216#32).toNat = 127 * 2 ^ 23 + (w >>> 9).toNat := by
  rw [BitVec.toNat_or, Nat.or_comm, show (1065353216#32).toNat = 2 ^ 23 * 127 from rfl,
    ← Nat.two_pow_add_eq_or_of_lt (frac_lt w), Nat.mul_comm]

/-- The pattern made of a word's fraction bits under the exponent of 1 denotes 1 plus that fraction. -/
theorem ofBits_pattern (w : BitVec 32) : Ideal.ofBits .f32 ((w >>> 9) ||| 1065353216#32)
    = ((1 + ((w >>> 9).toNat : ℝ) / 2 ^ 23 : ℝ) : EReal) := by
  have hv := pattern_toNat w
  have hm := frac_lt w
  show Ideal.ieee 8 23 ((w >>> 9) ||| 1065353216#32) = _
  generalize (w >>> 9).toNat = n at hv hm ⊢
  generalize ((w >>> 9) ||| 1065353216#32) = v at hv
  have h1 : v.extractLsb' (8 + 23) 1 = 0#1 := by
    apply BitVec.eq_of_toNat_eq
    rw [BitVec.extractLsb'_toNat, hv, Nat.shiftRight_eq_div_pow]
    show _ % _ = 0
    omega
  have h2 : (v.extractLsb' 23 8).toNat = 127 := by
    rw [BitVec.extractLsb'_toNat, hv, Nat.shiftRight_eq_div_pow]
    omega
  have h3 : (v.extractLsb' 0 23).toNat = n := by
    rw [BitVec.extractLsb'_toNat, hv, Nat.shiftRight_eq_div_pow]
    omega
  unfold Ideal.ieee
  simp only [h1, h2, h3]
  rw [if_neg (by norm_num), if_neg (by norm_num)]
  congr 1
  rw [if_neg (by decide)]
  push_cast
  norm_num
  ring

/-- What both programs compute before the logarithm. -/
theorem uniform_eq (w : BitVec 32) :
    Ideal.ofBits .f32 ((w >>> 9) ||| 1065353216#32) - Ideal.ofBits .f32 0x3F800000#32 + Ideal.ofBits .f32 0x2B8CBCCC#32
      = ((uniform w : ℝ) : EReal) := by
  rw [ofBits_pattern, Ideal.ofBits_one_f32, ofBits_tiny, show (1 : EReal) = ((1 : ℝ) : EReal) from rfl, ← EReal.coe_sub,
    ← EReal.coe_add]
  unfold uniform
  congr 1
  ring

/-- The logarithm of the uniform value. -/
theorem log_uniform (w : BitVec 32) : Ideal.log ((uniform w : ℝ) : EReal) = ((ulog w : ℝ) : EReal) := by
  show (if uniform w ≤ 0 then ⊥ else ((Real.log (uniform w) : ℝ) : EReal)) = _
  rw [if_neg (not_le.2 (uniform_pos w))]
  rfl

end Cert.Uniform

end
-- ==== Proof.Math.Softmax.lean ====
/- The equation between the two programs on real numbers and minus infinity: a sample's softmax weight does not depend on
   the constant subtracted in the exponent, and the exponential of twice the Gumbel noise `−log(−log u)` is `1/(log u)²`. -/
module

public import proofs.«01_k».proof.Proof.Math.Uniform

@[expose] public section

noncomputable section

namespace Cert.Softmax

open Idealize.ShloMosaic Cert.Uniform
open scoped BigOperators

/-- `exp(2x)` as a real number, zero at minus infinity. -/
def grow (x : EReal) : ℝ := if x = ⊥ then 0 else Real.exp (2 * x.toReal)

/-- It is zero at minus infinity. -/
theorem grow_bot : grow ⊥ = 0 := if_pos rfl
/-- At a real number it is the exponential of its double. -/
theorem grow_coe (r : ℝ) : grow (r : EReal) = Real.exp (2 * r) := if_neg (EReal.coe_ne_bot r)
/-- It is never negative. -/
theorem grow_nonneg (x : EReal) : 0 ≤ grow x := by
  unfold grow; split
  · exact le_refl 0
  · exact (Real.exp_pos _).le
/-- It is positive away from minus infinity. -/
theorem grow_pos {x : EReal} (h : x ≠ ⊥) : 0 < grow x := by unfold grow; rw [if_neg h]; exact Real.exp_pos _

/-- What a lane with logit `x` and drawn word `w` weighs before normalisation. -/
def mass (x : EReal) (w : BitVec 32) : ℝ := grow x * (1 / (ulog w * ulog w))

/-- The factor drawn is positive. -/
theorem weight_pos (w : BitVec 32) : 0 < 1 / (ulog w * ulog w) :=
  one_div_pos.2 (mul_pos_of_neg_of_neg (ulog_neg w) (ulog_neg w))
/-- A lane at minus infinity weighs nothing. -/
theorem mass_bot (w : BitVec 32) : mass ⊥ w = 0 := by unfold mass; rw [grow_bot, zero_mul]
/-- No weight is negative. -/
theorem mass_nonneg (x : EReal) (w : BitVec 32) : 0 ≤ mass x w := mul_nonneg (grow_nonneg x) (weight_pos w).le
/-- A lane not at minus infinity has a positive weight. -/
theorem mass_pos {x : EReal} (h : x ≠ ⊥) (w : BitVec 32) : 0 < mass x w := mul_pos (grow_pos h) (weight_pos w)

/-- Division of reals in the extended reals. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The kernel's exponential of a lane. -/
theorem kernel_exp {x : EReal} (hx : x ≠ ⊤) (c : ℝ) :
    Ideal.exp (((2 : ℝ) : EReal) * x - (c : EReal)) = ((grow x * Real.exp (-c) : ℝ) : EReal) := by
  induction x with
  | bot =>
    rw [EReal.coe_mul_bot_of_pos (by norm_num), EReal.bot_sub, grow_bot, zero_mul]
    rfl
  | top => exact absurd rfl hx
  | coe r =>
    rw [← EReal.coe_mul, ← EReal.coe_sub, grow_coe, ← Real.exp_add]
    rfl

/-- Twice the Gumbel noise, exponentiated. -/
theorem exp_gumbel (w : BitVec 32) : Real.exp (2 * -Real.log (-ulog w)) = 1 / (ulog w * ulog w) := by
  have h : 0 < -ulog w := neg_pos.2 (ulog_neg w)
  rw [show 2 * -Real.log (-ulog w) = -(Real.log (-ulog w) + Real.log (-ulog w)) by ring, Real.exp_neg, Real.exp_add,
    Real.exp_log h, neg_mul_neg, one_div]

/-- The reference's noisy logit of a lane, before the maximum is subtracted. -/
def noisy (x : EReal) (w : BitVec 32) : EReal :=
  Ideal.div (((-Real.log (-ulog w) : ℝ) : EReal) + x) (((1 / 2 : ℝ) : ℝ) : EReal)

/-- The noisy logit of minus infinity is minus infinity. -/
theorem noisy_bot (w : BitVec 32) : noisy ⊥ w = ⊥ := by
  unfold noisy Ideal.div
  rw [if_neg (by norm_num), EReal.add_bot, ← EReal.coe_inv, EReal.bot_mul_coe_of_pos (by norm_num)]

/-- The noisy logit of a real number is twice the sum of the noise and it. -/
theorem noisy_coe (r : ℝ) (w : BitVec 32) : noisy (r : EReal) w = ((2 * -Real.log (-ulog w) + 2 * r : ℝ) : EReal) := by
  unfold noisy
  rw [← EReal.coe_add, div_coe _ _ (by norm_num)]
  congr 1
  ring

/-- A noisy logit is plus infinity only if the logit is. -/
theorem noisy_ne_top {x : EReal} (hx : x ≠ ⊤) (w : BitVec 32) : noisy x w ≠ ⊤ := by
  induction x with
  | bot => rw [noisy_bot]; exact bot_ne_top
  | top => exact absurd rfl hx
  | coe r => rw [noisy_coe]; exact EReal.coe_ne_top _

/-- The noisy logit of a real number is not minus infinity. -/
theorem noisy_ne_bot {x : EReal} (hx : x ≠ ⊤) (hb : x ≠ ⊥) (w : BitVec 32) : noisy x w ≠ ⊥ := by
  induction x with
  | bot => exact absurd rfl hb
  | top => exact absurd rfl hx
  | coe r => rw [noisy_coe]; exact EReal.coe_ne_bot _

/-- The reference's exponential of a lane. -/
theorem reference_exp {x : EReal} (hx : x ≠ ⊤) (w : BitVec 32) (M : ℝ) :
    Ideal.exp (noisy x w - (M : EReal)) = ((mass x w * Real.exp (-M) : ℝ) : EReal) := by
  induction x with
  | bot => rw [noisy_bot, EReal.bot_sub, mass_bot, zero_mul]; rfl
  | top => exact absurd rfl hx
  | coe r =>
    rw [noisy_coe, ← EReal.coe_sub]
    show ((Real.exp _ : ℝ) : EReal) = _
    congr 1
    unfold mass
    rw [grow_coe, ← exp_gumbel, ← Real.exp_add, ← Real.exp_add]
    congr 1
    ring

/-- The maximum of a family of extended reals without plus infinity and not all minus infinity is a real number. -/
theorem fold_max_real {ι : Type} [DecidableEq ι] (s : Finset ι) (f : ι → EReal) (ht : ∀ i ∈ s, f i ≠ ⊤)
    (hb : ∃ i ∈ s, f i ≠ ⊥) : ∃ M : ℝ, s.fold max ⊥ f = (M : EReal) := by
  have h1 : s.fold max ⊥ f ≠ ⊤ := by
    have : s.fold max ⊥ f < ⊤ := (Finset.fold_max_lt _).2 ⟨bot_lt_top, fun i hi => lt_top_iff_ne_top.2 (ht i hi)⟩
    exact this.ne
  have h2 : s.fold max ⊥ f ≠ ⊥ := by
    obtain ⟨i, hi, hne⟩ := hb
    have : ⊥ < s.fold max ⊥ f := (Finset.lt_fold_max _).2 (.inr ⟨i, hi, bot_lt_iff_ne_bot.2 hne⟩)
    exact this.ne'
  exact ⟨_, (EReal.coe_toReal h1 h2).symm⟩

/-- Conversely, when that maximum is neither infinity, no member is plus infinity and one is not minus infinity. -/
theorem of_fold_max {ι : Type} [DecidableEq ι] (s : Finset ι) (f : ι → EReal) (h1 : ⊥ < s.fold max ⊥ f)
    (h2 : s.fold max ⊥ f < ⊤) : (∀ i ∈ s, f i ≠ ⊤) ∧ ∃ i ∈ s, f i ≠ ⊥ := by
  constructor
  · exact fun i hi => (((Finset.fold_max_lt _).1 h2).2 i hi).ne
  · rcases (Finset.lt_fold_max _).1 h1 with h | ⟨i, hi, h⟩
    · exact absurd h (lt_irrefl _)
    · exact ⟨i, hi, h.ne'⟩

/-- A finite sum of reals in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A lane's share of the sum is the same with either constant taken out, divided by the sum or multiplied by its inverse. -/
theorem share (p S c d : ℝ) (hS : 0 < S) (hc : 0 < c) (hd : 0 < d) :
    Ideal.div ((p * c : ℝ) : EReal) ((S * c : ℝ) : EReal)
      = ((p * d : ℝ) : EReal) * Ideal.div ((1 : ℝ) : EReal) ((S * d : ℝ) : EReal) := by
  rw [div_coe _ _ (mul_pos hS hc).ne', div_coe _ _ (mul_pos hS hd).ne', ← EReal.coe_mul]
  congr 1
  field_simp

/-- A sum over eight chunks of `n` lanes, lane by lane, is the sum over all `8 n` lanes in order. -/
theorem sum_chunks (n K : ℕ) (G : ℕ → ℝ) :
    ∑ l : Fin n, ∑ k : Fin K, G (k.val * n + l.val) = ∑ j ∈ Finset.range (K * n), G j := by
  rw [Finset.sum_comm]
  rw [Fin.sum_univ_eq_sum_range (fun k => ∑ l : Fin n, G (k * n + l.val))]
  induction K with
  | zero => simp
  | succ K ih =>
    rw [Finset.sum_range_succ, ih, Fin.sum_univ_eq_sum_range (fun l => G (K * n + l)), Nat.succ_mul, Finset.sum_range_add]

/-- Lanes past `N` that weigh nothing can be left out. -/
theorem sum_cut (N T : ℕ) (h : N ≤ T) (G : ℕ → ℝ) (h0 : ∀ j, N ≤ j → G j = 0) :
    ∑ j ∈ Finset.range T, G j = ∑ j : Fin N, G j.val := by
  rw [Fin.sum_univ_eq_sum_range G]
  refine (Finset.sum_subset (Finset.range_mono h) fun j _ hj => h0 j ?_).symm
  simpa using hj

end Cert.Softmax

end
-- ==== Proof.Pre.lean ====
/- What the precondition says of a row: the row's maximum is neither infinity, so no lane is plus infinity and some lane is
   not minus infinity. -/
module

public import proofs.«01_k».proof.Pre_finite_row_max
public import proofs.«01_k».proof.Proof.Math.Row
public import proofs.«01_k».proof.Proof.Math.Bits
public import proofs.«01_k».proof.Proof.Math.Softmax
public import Idealize.ShloMosaic.Lib.ReduceAll
public import Idealize.ShloMosaic.Lib.Affine
public import Idealize.ShloMosaic.Lib.KernelVsHost
public import Idealize.ShloMosaic.Lib.IdealHost

@[expose] public section

set_option maxRecDepth 16384

noncomputable section

namespace Cert.Pre_finite_row_max

open Idealize.ShloMosaic Cert.Softmax
open Facts

variable [Facts]

/-- The reduction of a row's lanes, as a shape relation. -/
theorem redRow : S32x1x100000.Reduces [2] S32x1 := by decide

/-- The place a row's reduction reads at lane `n`. -/
theorem liftRow (b : Fin 32) (n : Fin 100000) :
    redRow.lift (ValueIdx.ix2 b (0 : Fin 1)) n = ValueIdx.ix3 b (0 : Fin 1) n := by
  funext a; match a with
  | 0 => rfl
  | 1 => rfl
  | 2 => rfl

/-- The rows' maxima, as printed. -/
def rowMax (A : FVec Ideal S32x1x100000 .f32) : FVec Ideal S32x1 .f32 :=
  Host.reduce FloatOps.maximumf A (constant S_ .f32 0xFF800000#32) reducesTo_S32x1x100000_S32x1_d2 h_S_

/-- A row's maximum is the maximum over its lanes. -/
theorem rowMax_at (A : FVec Ideal S32x1x100000 .f32) (b : Fin 32) :
    rowMax A (ValueIdx.ix2 b (0 : Fin 1))
      = (Finset.univ : Finset (Fin 100000)).fold max ⊥ fun n => A (ValueIdx.ix3 b (0 : Fin 1) n) := by
  have e := (congrFun (hostReduce_maximumf_eq_multiReduction A 0xFF800000#32 reducesTo_S32x1x100000_S32x1_d2 h_S_ redRow
    (.inl rfl) rfl) (ValueIdx.ix2 b (0 : Fin 1))).trans
    (Ideal.multiReduction_maximumf_single A 0xFF800000#32 redRow (.inl rfl) rfl (ValueIdx.ix2 b (0 : Fin 1)))
  rw [show (FloatOps.ofBits .f32 0xFF800000#32 : Ideal .f32) = ⊥ from Pattern.minus_inf] at e
  exact e.trans (congrArg (Finset.fold max ⊥ · Finset.univ) (funext fun n => congrArg A (liftRow b n)))

/-- A comparison, read at a place. -/
theorem cmpf_at {s : Shape} (p : CmpFPredicate) (x y : FVec Ideal s .f32) (i : s.Idx) :
    cmpf p x y i = Ideal.cmp p (x i) (y i) := rfl
/-- A conjunction, read at a place. -/
theorem andi_at {s : Shape} (x y : IVec s 1) (i : s.Idx) : andi x y i = IntOp.andi (x i) (y i) := rfl

/-- What the comparison "greater" says when it is one. -/
theorem gt_of_cmp {x y : EReal} (h : Ideal.cmp .ogt x y = 1#1) : y < x := by
  unfold Ideal.cmp at h
  by_contra hn
  rw [decide_eq_false hn] at h
  exact absurd (show BitVec.ofBool false = 1#1 from h) (by decide)

/-- What the comparison "less" says when it is one. -/
theorem lt_of_cmp {x y : EReal} (h : Ideal.cmp .olt x y = 1#1) : x < y := by
  unfold Ideal.cmp at h
  by_contra hn
  rw [decide_eq_false hn] at h
  exact absurd (show BitVec.ofBool false = 1#1 from h) (by decide)

/-- The printed precondition: every row's maximum lies between the infinities. -/
theorem fn_printed (A : FVec Ideal S32x1x100000 .f32) : fn A = Host.reduce IntOp.andi
    (andi (cmpf .ogt (rowMax A) (broadcastInDim S32x1 ![] bcast_S_S32x1 (constant S_ .f32 0xFF800000#32)))
      (cmpf .olt (rowMax A) (broadcastInDim S32x1 ![] bcast_S_S32x1 (constant S_ .f32 0x7F800000#32))))
    (constantI S_ 1 1#1) reducesTo_S32x1_S_d0_1 h_S_ := rfl

/-- An array the precondition holds of is `Row.Finite`. -/
theorem finite_of_fn (A : FVec Ideal S32x1x100000 .f32) (h : fn A = fun _ => 1#1) : Row.Finite A := by
  intro b
  have e := congrFun h ValueIdx.ix0
  rw [fn_printed] at e
  have : Subsingleton S_.Idx := ⟨fun i j => funext fun a => a.elim0⟩
  have e1 := Host.reduce_andi_all _ _ _ _ _ e (ValueIdx.ix2 b (0 : Fin 1))
  rw [andi_at, IntOp.andi_eq_one, cmpf_at, cmpf_at, ValueIdx.broadcastInDim_scalar_apply,
    ValueIdx.broadcastInDim_scalar_apply, rowMax_at] at e1
  have h1 := gt_of_cmp e1.1
  have h2 := lt_of_cmp e1.2
  rw [show (constant S_ .f32 0xFF800000#32 ValueIdx.ix0 : Ideal .f32) = ⊥ from Pattern.minus_inf] at h1
  rw [show (constant S_ .f32 0x7F800000#32 ValueIdx.ix0 : Ideal .f32) = ⊤ from Pattern.plus_inf] at h2
  obtain ⟨a1, n, -, hn⟩ := of_fold_max _ _ h1 h2
  exact ⟨fun n => a1 n (Finset.mem_univ n), n, hn⟩

end Cert.Pre_finite_row_max

end
-- ==== Proof.Kern.Array.lean ====
/- The kernel's result array: each grid point writes its own row of the padded output, so the array the launch leaves is
   `blockOut` of each row's input block; the host operations around it pad the argument with −∞ to whole chunks and cut
   the padding off again. -/
module

public import proofs.«01_k».proof.Proof.Kern.Run
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

variable (m : (ℓ : Loc nD τ sig) → Buf (Elt F) ℓ) (ρ : Dev nD → PrngReg)

/-- The grid point of row `b`. -/
def pt (b : Fin 32) : Fin cfg0.N := ⟨b.val, by show b.val < grid0.N; rw [N_0]; exact b.isLt⟩

/-- What the launch leaves in its output array: each row `blockOut` of the row's input block. -/
def result (c : Dev nD) : Vec F S32x8x1x12544 .f32 :=
  fun y => blockOut (grid0.coords (pt (y 0))) (iblk m c 0 (pt (y 0)))
    (fun | 0 => (0 : Fin 1) | 1 => y 1 | 2 => y 2 | 3 => y 3)

/-- Grid point `t` has coordinate `t`, and its output and input blocks start at row `t`. -/
theorem coords_val : ∀ t : Fin grid0.N, (grid0.coords t 0).val = t.val := by decide +kernel
/-- The output block of grid point `t` is row `t`, whole. -/
theorem index1 : ∀ t : Fin grid0.N, win0_1.index t = ![t.val, 0, 0, 0] := by decide +kernel
/-- The input block of grid point `t` is row `t`, whole. -/
theorem index0 : ∀ t : Fin grid0.N, win0_0.index t = ![t.val, 0, 0, 0] := by decide +kernel

/-- Where the output block of grid point `t` puts its elements: row `t`. -/
theorem blk1_emb (t : Fin cfg0.N) (z : (((cfg0.win 1).xblock (cfg0.grid.coords t))).Idx) (a : Fin 4) :
    ((((cfg0.win 1).blk t).view.emb z : S32x8x1x12544.Idx) a).val = (![t.val, 0, 0, 0] : Fin 4 → ℕ) a * win0_1.size a + (z a).val := by
  rw [← index1 t]
  exact Rect.idx_unit_val _ _ _ z a

/-- Where the input block of grid point `t` reads its elements: row `t`. -/
theorem blk0_emb (t : Fin cfg0.N) (z : (((cfg0.win 0).xblock (cfg0.grid.coords t))).Idx) (a : Fin 4) :
    ((((cfg0.win 0).blk t).view.emb z : S32x8x1x12544.Idx) a).val = (![t.val, 0, 0, 0] : Fin 4 → ℕ) a * win0_0.size a + (z a).val := by
  rw [← index0 t]
  exact Rect.idx_unit_val _ _ _ z a

/-- What each grid point writes back is its rows of `result`. -/
theorem flushed_eq (c : Dev nD) (t : Fin cfg0.N) (hf : (cfg0.win 1).flush t = true) :
    (dats m 0 c).flushed 1 t = ((cfg0.win 1).blk t).view.read (Elt F) (result m c) := by
  show (cfg0.win 1).cut (grid0.coords t) ((dats m 0 c).after 1 t) = _
  rw [after0_1]
  funext z
  rw [View.read_apply]
  have e := blk1_emb t z
  generalize (((cfg0.win 1).blk t).view.emb z : S32x8x1x12544.Idx) = y at e
  have ht : pt (y 0) = t := Fin.ext (by
    show (y 0).val = t.val
    rw [e 0]
    show t.val * 1 + (z 0).val = t.val
    have : (z 0).val < 1 := (z 0).isLt
    omega)
  unfold result
  rw [ht]
  generalize blockOut (grid0.coords t) (iblk m c 0 t) = w
  refine congrArg w (funext fun a => Fin.ext ?_)
  match a with
  | 0 => exact Nat.lt_one_iff.mp (z 0).isLt
  | 1 => exact ((e 1).trans (by show 0 * 8 + (z 1).val = (z 1).val; omega)).symm
  | 2 => exact ((e 2).trans (by show 0 * 1 + (z 2).val = (z 2).val; omega)).symm
  | 3 => exact ((e 3).trans (by show 0 * 12544 + (z 3).val = (z 3).val; omega)).symm

/-- So the array ends holding `result`: row `t` is covered by grid point `t`. -/
theorem final_o (c : Dev nD) : (dats m 0 c).arrAt 1 cfg0.N = result m c :=
  (dats m 0 c).arrAt_eq_of_cover 1 (result m c) (flushed_eq m c) fun i =>
    ⟨pt (i 0), flush0_1 _, by
      show i ∈ ((View.whole main_v3).slice (win0_1.rect (pt (i 0)))).set
      rw [View.set_slice_whole, Rect.mem_set_unit]
      intro a
      have h1 : (i 1 : Nat) < 8 := (i 1).isLt
      have h2 : (i 2 : Nat) < 1 := (i 2).isLt
      have h3 : (i 3 : Nat) < 12544 := (i 3).isLt
      have hx := congrFun (index1 (pt (i 0))) a
      rw [hx]
      match a with
      | 0 => show (i 0).val * 1 ≤ (i 0 : Nat) ∧ (i 0 : Nat) < (i 0).val * 1 + 1; omega
      | 1 => show 0 * 8 ≤ (i 1 : Nat) ∧ (i 1 : Nat) < 0 * 8 + 8; omega
      | 2 => show 0 * 1 ≤ (i 2 : Nat) ∧ (i 2 : Nat) < 0 * 1 + 1; omega
      | 3 => show 0 * 12544 ≤ (i 3 : Nat) ∧ (i 3 : Nat) < 0 * 12544 + 12544; omega⟩

/-- What the host operations after the launch make of its output array: chunks joined, padding cut off. -/
theorem tail_v5 (c : Dev nD) : Pipeline.afterTail₀ cfgs (dats m) 0 (V0 m) [hostOps1] c main_v5
    = extractStridedSlice S32x1x100000 ![0, 0, 0]
        (shapeCast S32x1x100352 (result m c) shapeCasts_S32x8x1x12544_S32x1x100352)
        slices_S32x1x100352_S32x1x100000_0_0_0 := by
  unfold Pipeline.afterTail₀
  simp only [hostOps1, List.flatten_cons, List.flatten_nil, List.append_nil, List.cons_append, List.nil_append]
  after_results_simp
  have hw := Pipeline.withArrays_arr (cfgs 0).spec launch0.win.arr_inj c (V0 m c)
    (fun w => (dats m 0 c).arrAt w (cfgs 0).N) 1
  have hw' : Pipeline.withArrays (cfgs 0).spec c (V0 m c) (fun w => (dats m 0 c).arrAt w (cfgs 0).N)
      (Proc.devRef .tc main_v3) = result m c := hw.trans (final_o m c)
  rw [hw']
  rfl

/-- What the host operations before the launch make of the argument: padded with −∞ to whole chunks. -/
theorem V_v2 (c : Dev nD) : V m c main_v2
    = shapeCast S32x8x1x12544 (pad S32x100352 ![0, 0] ![0, 352] ![0, 0]
        (shapeCast S32x100000 (m ((c.tc : Thread nD τ).loc main_arg0)) shapeCasts_S32x1x100000_S32x100000)
        (constant S_ .f32 0xFF800000#32) pads_S32x100000_S32x100352_000_03520 h_S_)
        shapeCasts_S32x100352_S32x8x1x12544 := by
  entry_read
  simp only [hostOps0, hostOps0_1, hostOps0_2, List.flatten_cons, List.flatten_nil, List.append_nil, List.cons_append,
    List.nil_append]
  after_results_simp
  rfl

end Cert.KernelIdeal.Val

end
-- ==== Proof.Kern.Payload.lean ====
/- The kernel's floating-point payloads read at a place, on the extended reals: the exponentials of a chunk of lanes, and
   an output chunk from the exponentials and the running sums. -/
module

public import proofs.«01_k».proof.Proof.Kern.Block
public import proofs.«01_k».proof.Proof.Math.Bits
public import proofs.«01_k».proof.Proof.Math.Softmax
public import Idealize.ShloMosaic.Lib.ValueLayout
public import Idealize.ShloMosaic.Lib.ValueLayoutCasts
public import Idealize.ShloMosaic.Lib.IdealHost

@[expose] public section

set_option maxRecDepth 16384

noncomputable section

namespace Cert.KernelIdeal.Val

open Cert.KernelIdeal Cert.KernelIdeal.Gen
open Idealize.ShloMosaic Cert.Softmax
open scoped BigOperators

/-- The block's largest logit, as printed. -/
def blockMax (x : FVec Ideal S1x8x1x12544 .f32) : Ideal .f32 :=
  extractAt ![0, 0, 0, 0] (shapeCast S1x1x1x1 (multiReduction .maximumf [1, 2, 3] S1
    (shapeCast S1x8x1x12544 (shapeCast S8x1x12544 x shapeCasts_S1x8x1x12544_S8x1x12544) shapeCasts_S8x1x12544_S1x8x1x12544)
    0xFF800000#32 reduces_S1x8x1x12544_S1 (.inl rfl) rfl) shapeCasts_S1_S1x1x1x1) inpos_S1x1x1x1_p0_0_0_0

/-- The constant the kernel subtracts in the exponent, as printed: twice the block's maximum, plus thirty-two. -/
def shiftOf (x : FVec Ideal S1x8x1x12544 .f32) : Ideal .f32 :=
  Scalar.addf (Scalar.mulf (Scalar.ofBits .f32 0x40000000#32) (blockMax x)) (Scalar.ofBits .f32 0x42000000#32)

/-- Reading a block's maximum is a fold over some set of its places, and over all of them. -/
theorem blockMax_eq (x : FVec Ideal S1x8x1x12544 .f32) :
    (blockMax x : EReal) = (Finset.univ : Finset S1x8x1x12544.Idx).fold max ⊥ x := by
  unfold blockMax extractAt
  rw [shapeCast_shapeCast, shapeCast_apply _ _ _ (ValueIdx.ix1 (0 : Fin 1)) (by
    rw [Shape.rowMajor_val_one, Shape.rowMajor_val_four]; rfl)]
  have e := multiReduction_maximumf_eq_fold x 0xFF800000#32 reduces_S1x8x1x12544_S1 (.inl rfl) rfl (ValueIdx.ix1 (0 : Fin 1))
  rw [show (FloatOps.ofBits .f32 0xFF800000#32 : Ideal .f32) = ⊥ from Pattern.minus_inf, Finset.filter_true_of_mem
    (fun i _ => funext fun a => Fin.ext (by
      match a with
      | 0 => exact Nat.lt_one_iff.mp (reduces_S1x8x1x12544_S1.drop i 0).isLt))] at e
  exact e

/-- The scalar arithmetic of that constant. -/
theorem shift_scalar (a : Ideal .f32) :
    Scalar.addf (Scalar.mulf (Scalar.ofBits .f32 0x40000000#32) a) (Scalar.ofBits .f32 0x42000000#32)
      = Ideal.ofBits .f32 0x40000000#32 * (a : EReal) + Ideal.ofBits .f32 0x42000000#32 := rfl

/-- On a block without plus infinity, not all minus infinity, that constant is a real number. -/
theorem shiftOf_real (x : FVec Ideal S1x8x1x12544 .f32) (ht : ∀ i, (x i : EReal) ≠ ⊤) (hb : ∃ i, (x i : EReal) ≠ ⊥) :
    ∃ c : ℝ, (shiftOf x : EReal) = (c : EReal) := by
  obtain ⟨M, hM⟩ := fold_max_real (Finset.univ : Finset S1x8x1x12544.Idx) x (fun i _ => ht i)
    (let ⟨i, hi⟩ := hb; ⟨i, Finset.mem_univ i, hi⟩)
  refine ⟨2 * M + 32, ?_⟩
  unfold shiftOf
  rw [shift_scalar, blockMax_eq, hM, Pattern.two, Pattern.thirtyTwo, ← EReal.coe_mul, ← EReal.coe_add]

/-- The exponentials of a chunk's lanes with the constant `s` subtracted, as printed. -/
def expLane (ch : FVec Ideal S1x1x1x12544 .f32) (s : Ideal .f32) : FVec Ideal S12544 .f32 :=
  exp (subf (mulf (broadcast S12544 (Scalar.ofBits .f32 0x40000000#32 : Ideal .f32))
    (shapeCast S12544 ch shapeCasts_S1x1x1x12544_S12544)) (broadcast S12544 s))

/-- A lane's exponential is that of twice its logit less the constant. -/
theorem expLane_at (ch : FVec Ideal S1x1x1x12544 .f32) (s : Ideal .f32) (l : Fin 12544) :
    expLane ch s (ValueIdx.ix1 l) = Ideal.exp (((2 : ℝ) : EReal) * ch (ValueIdx.ix4 0 0 0 l) - s) := by
  have e : expLane ch s (ValueIdx.ix1 l) = Ideal.exp (Ideal.ofBits .f32 0x40000000#32
      * (shapeCast S12544 ch shapeCasts_S1x1x1x12544_S12544 (ValueIdx.ix1 l) : EReal) - s) := rfl
  rw [e, Pattern.two, shapeCast_apply _ _ _ (ValueIdx.ix4 (0 : Fin 1) (0 : Fin 1) (0 : Fin 1) l) (by
    rw [Shape.rowMajor_val_one, Shape.rowMajor_val_four]
    show ((0 * 1 + 0) * 1 + 0) * 12544 + l.val = l.val
    omega)]

/-- The printed chunk payload is the lanes' exponentials, spread over the samples, times the drawn weights. -/
theorem pay3_printed (x : FVec Ideal S1x8x1x12544 .f32) (w : FVec Ideal S8x12544 .f32) (ch : FVec Ideal S1x1x1x12544 .f32) :
    k0_pay3 x w ch = mulf (broadcastTo S8x12544 (shapeCast S1x12544 (expLane ch (shiftOf x)) shapeCasts_S12544_S1x12544)
      broadcasts_S1x12544_S8x12544) w := rfl

/-- A product, read at a place. -/
theorem mul_at {s : Shape} (y z : FVec Ideal s .f32) (i : s.Idx) : mulf y z i = (y i : EReal) * z i := rfl
/-- A sum, read at a place. -/
theorem add_at {s : Shape} (y z : FVec Ideal s .f32) (i : s.Idx) : addf y z i = (y i : EReal) + z i := rfl
/-- A quotient, read at a place. -/
theorem div_at {s : Shape} (y z : FVec Ideal s .f32) (i : s.Idx) : divf y z i = Ideal.div (y i) (z i) := rfl

/-- A chunk's exponential in sample `r` at lane `l`. -/
theorem pay3_at (x : FVec Ideal S1x8x1x12544 .f32) (w : FVec Ideal S8x12544 .f32) (ch : FVec Ideal S1x1x1x12544 .f32)
    (r : Fin 8) (l : Fin 12544) :
    k0_pay3 x w ch (ValueIdx.ix2 r l)
      = Ideal.exp (((2 : ℝ) : EReal) * ch (ValueIdx.ix4 0 0 0 l) - shiftOf x) * w (ValueIdx.ix2 r l) := by
  rw [pay3_printed, mul_at, ValueIdx.broadcastTo_1b_ab_apply, ValueIdx.shapeCast_a_1a_apply, expLane_at]

/-- The same as stored in the scratch buffer. -/
theorem pay4_at (x : FVec Ideal S1x8x1x12544 .f32) (w : FVec Ideal S8x12544 .f32) (ch : FVec Ideal S1x1x1x12544 .f32)
    (r : Fin 8) (l : Fin 12544) :
    k0_pay4 x w ch (ValueIdx.ix3 0 r l) = k0_pay3 x w ch (ValueIdx.ix2 r l) := by
  unfold k0_pay4
  exact ValueIdx.shapeCast_ab_1ab_apply _ _ _ _ _

/-- The running sums start from zero. -/
theorem pay2_at (i : S8x12544.Idx) : (k0_pay2 (F := Ideal) i : EReal) = 0 := Ideal.ofBits_zero_f32

/-- The inverse of each sample's whole sum, as printed. -/
def inverse (v : FVec Ideal S8x12544 .f32) : FVec Ideal S8x1 .f32 :=
  divf (broadcast S8x1 (Scalar.ofBits .f32 0x3F800000#32 : Ideal .f32))
    (shapeCast S8x1 (multiReduction .add [1] S8 v 0x00000000#32 reduces_S8x12544_S8 (.inl rfl) rfl) shapeCasts_S8_S8x1)

/-- The place a sum over lanes reads at lane `l` of sample `r`. -/
theorem lift_lane (r : Fin 8) (l : Fin 12544) : reduces_S8x12544_S8.lift (ValueIdx.ix1 r) l = ValueIdx.ix2 r l := by
  funext a; match a with
  | 0 => rfl
  | 1 => rfl

/-- The place a maximum over samples reads at sample `r` of lane `l`. -/
theorem lift_sample (l : Fin 12544) (r : Fin 8) : reduces_S8x12544_S12544.lift (ValueIdx.ix1 l) r = ValueIdx.ix2 r l := by
  funext a; match a with
  | 0 => rfl
  | 1 => rfl

/-- A sample's inverse is one divided by the sum of its running sums. -/
theorem inverse_at (v : FVec Ideal S8x12544 .f32) (r : Fin 8) :
    inverse v (ValueIdx.ix2 r (0 : Fin 1)) = Ideal.div ((1 : ℝ) : EReal) (∑ l : Fin 12544, (v (ValueIdx.ix2 r l) : EReal)) := by
  unfold inverse
  have e := (Ideal.multiReduction_add_single v 0x00000000#32 reduces_S8x12544_S8 (.inl rfl) rfl (ValueIdx.ix1 r)).trans
    (Finset.sum_congr rfl fun l _ => congrArg v (lift_lane r l))
  rw [div_at, ValueIdx.shapeCast_a_a1_apply]
  refine congrArg₂ Ideal.div ?_ e
  exact Ideal.ofBits_one_f32

/-- The largest over the samples, as printed. -/
def largest (v : FVec Ideal S8x12544 .f32) : FVec Ideal S12544 .f32 :=
  multiReduction .maximumf [0] S12544 v 0xFF800000#32 reduces_S8x12544_S12544 (.inl rfl) rfl

/-- A lane's largest is the maximum over the eight samples. -/
theorem largest_at (v : FVec Ideal S8x12544 .f32) (l : Fin 12544) :
    largest v (ValueIdx.ix1 l) = (Finset.univ : Finset (Fin 8)).fold max ⊥ fun r => v (ValueIdx.ix2 r l) := by
  have e := Ideal.multiReduction_maximumf_single v 0xFF800000#32 reduces_S8x12544_S12544 (.inl rfl) rfl (ValueIdx.ix1 l)
  rw [show (FloatOps.ofBits .f32 0xFF800000#32 : Ideal .f32) = ⊥ from Pattern.minus_inf] at e
  exact e.trans (congrArg (Finset.fold max ⊥ · Finset.univ) (funext fun r => congrArg v (lift_sample l r)))

/-- The printed output payload is the largest of the exponentials times the inverses. -/
theorem pay6_printed (v : FVec Ideal S8x12544 .f32) (e : FVec Ideal S1x8x12544 .f32) :
    k0_pay6 v e = shapeCast S1x1x1x12544 (largest (mulf (shapeCast S8x12544 e shapeCasts_S1x8x12544_S8x12544)
      (broadcastTo S8x12544 (inverse v) broadcasts_S8x1_S8x12544))) shapeCasts_S12544_S1x1x1x12544 := rfl

/-- An output chunk at lane `l`, from the chunk's exponentials `e` and the running sums `v`. -/
theorem pay6_at (v : FVec Ideal S8x12544 .f32) (e : FVec Ideal S1x8x12544 .f32) (l : Fin 12544) :
    k0_pay6 v e (ValueIdx.ix4 0 0 0 l) = (Finset.univ : Finset (Fin 8)).fold max ⊥ fun r =>
      (e (ValueIdx.ix3 0 r l) : EReal) * Ideal.div ((1 : ℝ) : EReal) (∑ l : Fin 12544, (v (ValueIdx.ix2 r l) : EReal)) := by
  rw [pay6_printed, shapeCast_apply _ _ _ (ValueIdx.ix1 l) (by
    rw [Shape.rowMajor_val_one, Shape.rowMajor_val_four]
    show l.val = ((0 * 1 + 0) * 1 + 0) * 12544 + l.val
    omega), largest_at]
  refine congrArg (Finset.fold max ⊥ · Finset.univ) (funext fun r => ?_)
  rw [mul_at, ValueIdx.shapeCast_1ab_ab_apply, broadcastTo_apply _ _ _ (ValueIdx.ix2 r (0 : Fin 1)) (fun a => by
    match a with
    | 0 => rfl
    | 1 => rfl), inverse_at]

end Cert.KernelIdeal.Val

end
-- ==== Proof.Rng.lean ====
/- The random words both programs draw: Threefry-2x32 with twenty rounds under the key (0, 1), at the counter (0, n),
   its two output words joined by exclusive or. -/
module

public import Idealize.ShloMosaic.PureOps

@[expose] public section

namespace Cert.Rng

open Idealize.ShloMosaic

/-- The word `x` turned left by `r` bits, `s` being `32 − r`. -/
def turn (r s x : BitVec 32) : BitVec 32 := IntOp.ori (IntOp.shli .vector x r) (IntOp.shrui .vector x s)

/-- One round, on the first word with the second already added to it, and the second word. -/
def step (r s : BitVec 32) (p : BitVec 32 × BitVec 32) : BitVec 32 × BitVec 32 :=
  (p.1 + (turn r s p.2 ^^^ p.1), turn r s p.2 ^^^ p.1)

/-- One round after which the key words `c` and `d` are added to the two words. -/
def inject (r s c d : BitVec 32) (p : BitVec 32 × BitVec 32) : BitVec 32 × BitVec 32 :=
  (p.1 + c + ((turn r s p.2 ^^^ p.1) + d), (turn r s p.2 ^^^ p.1) + d)

/-- The words after the first four rounds and their key addition, and the first of the next four. -/
def upTo5 (p : BitVec 32 × BitVec 32) : BitVec 32 × BitVec 32 :=
  step 17#32 15#32 (inject 6#32 26#32 1#32 466688988#32 (step 26#32 6#32 (step 15#32 17#32 (step 13#32 19#32 p))))

/-- From there, up to eleven rounds. -/
def upTo11 (p : BitVec 32 × BitVec 32) : BitVec 32 × BitVec 32 :=
  step 26#32 6#32 (step 15#32 17#32 (step 13#32 19#32 (inject 24#32 8#32 466688987#32 2#32
    (step 16#32 16#32 (step 29#32 3#32 p)))))

/-- From there, up to sixteen rounds with their key addition. -/
def upTo16 (p : BitVec 32 × BitVec 32) : BitVec 32 × BitVec 32 :=
  inject 24#32 8#32 1#32 466688991#32 (step 16#32 16#32 (step 29#32 3#32 (step 17#32 15#32
    (inject 6#32 26#32 0#32 4#32 p))))

/-- From there, up to nineteen rounds. -/
def upTo19 (p : BitVec 32 × BitVec 32) : BitVec 32 × BitVec 32 :=
  step 26#32 6#32 (step 15#32 17#32 (step 13#32 19#32 p))

/-- The last round, its key addition, and the two words joined. -/
def last (p : BitVec 32 × BitVec 32) : BitVec 32 :=
  (p.1 + 466688987#32) ^^^ ((turn 6#32 26#32 p.2 ^^^ p.1) + 5#32)

/-- The word drawn at counter `n`. -/
def word (n : BitVec 32) : BitVec 32 := last (upTo19 (upTo16 (upTo11 (upTo5 (n + 1#32, n + 1#32)))))

end Cert.Rng
-- ==== Proof.Kern.Rng.lean ====
/- The kernel's generator, element by element: the payloads of the first loop's body compute the words of
   `Cert.Rng.word` at the counter of each lane, and `1 / (log u)²` from them. -/
module

public import proofs.«01_k».proof.Proof.Rng
public import proofs.«01_k».proof.Proof.Kern.Trips

@[expose] public section

set_option maxRecDepth 16384

noncomputable section

namespace Cert.KernelIdeal.Val

open Cert.KernelIdeal Cert.KernelIdeal.Gen
open Idealize.ShloMosaic Cert.Rng

variable {F : FTy → Type} [FloatOps F]

section words
variable (v : IVec S8x12544 32) (c d : BitVec 32) (k : Fin k0_t1_loop.trips) (y : S8x12544.Idx)

/-- The first five rounds. -/
theorem words5 : (k0_pay17 v c d k y, k0_pay16 v c d k y) = upTo5 (k0_pay7 v c d k y, k0_pay7 v c d k y) := by
  have h1 : (k0_pay9 v c d k y, k0_pay8 v c d k y) = step 13#32 19#32 (k0_pay7 v c d k y, k0_pay7 v c d k y) := rfl
  have h2 : (k0_pay11 v c d k y, k0_pay10 v c d k y) = step 15#32 17#32 (k0_pay9 v c d k y, k0_pay8 v c d k y) := rfl
  have h3 : (k0_pay13 v c d k y, k0_pay12 v c d k y) = step 26#32 6#32 (k0_pay11 v c d k y, k0_pay10 v c d k y) := rfl
  have h4 : (k0_pay15 v c d k y, k0_pay14 v c d k y)
      = inject 6#32 26#32 1#32 466688988#32 (k0_pay13 v c d k y, k0_pay12 v c d k y) := rfl
  have h5 : (k0_pay17 v c d k y, k0_pay16 v c d k y) = step 17#32 15#32 (k0_pay15 v c d k y, k0_pay14 v c d k y) := rfl
  rw [h5, h4, h3, h2, h1]; rfl

end words

section later
variable (a b : IVec S8x12544 32) (y : S8x12544.Idx)

/-- The rounds up to the eleventh. -/
theorem words11 : (k0_pay29 a b 29#32 y, k0_pay28 a b 29#32 y) = upTo11 (b y, a y) := by
  have h1 : (k0_pay19 a b 29#32 y, k0_pay18 a b 29#32 y) = step 29#32 3#32 (b y, a y) := rfl
  have h2 : (k0_pay21 a b 29#32 y, k0_pay20 a b 29#32 y)
      = step 16#32 16#32 (k0_pay19 a b 29#32 y, k0_pay18 a b 29#32 y) := rfl
  have h3 : (k0_pay23 a b 29#32 y, k0_pay22 a b 29#32 y)
      = inject 24#32 8#32 466688987#32 2#32 (k0_pay21 a b 29#32 y, k0_pay20 a b 29#32 y) := rfl
  have h4 : (k0_pay25 a b 29#32 y, k0_pay24 a b 29#32 y)
      = step 13#32 19#32 (k0_pay23 a b 29#32 y, k0_pay22 a b 29#32 y) := rfl
  have h5 : (k0_pay27 a b 29#32 y, k0_pay26 a b 29#32 y)
      = step 15#32 17#32 (k0_pay25 a b 29#32 y, k0_pay24 a b 29#32 y) := rfl
  have h6 : (k0_pay29 a b 29#32 y, k0_pay28 a b 29#32 y)
      = step 26#32 6#32 (k0_pay27 a b 29#32 y, k0_pay26 a b 29#32 y) := rfl
  rw [h6, h5, h4, h3, h2, h1]; rfl

/-- The rounds up to the sixteenth. -/
theorem words16 : (k0_pay39 a b 6#32 y, k0_pay38 a b 6#32 y) = upTo16 (b y, a y) := by
  have h1 : (k0_pay31 a b 6#32 y, k0_pay30 a b 6#32 y) = inject 6#32 26#32 0#32 4#32 (b y, a y) := rfl
  have h2 : (k0_pay33 a b 6#32 y, k0_pay32 a b 6#32 y)
      = step 17#32 15#32 (k0_pay31 a b 6#32 y, k0_pay30 a b 6#32 y) := rfl
  have h3 : (k0_pay35 a b 6#32 y, k0_pay34 a b 6#32 y)
      = step 29#32 3#32 (k0_pay33 a b 6#32 y, k0_pay32 a b 6#32 y) := rfl
  have h4 : (k0_pay37 a b 6#32 y, k0_pay36 a b 6#32 y)
      = step 16#32 16#32 (k0_pay35 a b 6#32 y, k0_pay34 a b 6#32 y) := rfl
  have h5 : (k0_pay39 a b 6#32 y, k0_pay38 a b 6#32 y)
      = inject 24#32 8#32 1#32 466688991#32 (k0_pay37 a b 6#32 y, k0_pay36 a b 6#32 y) := rfl
  rw [h5, h4, h3, h2, h1]; rfl

end later

/-- `1 / (log u)²` for the uniform value `u` that the kernel makes of the drawn word `w`. -/
def weightOf (w : BitVec 32) : F .f32 :=
  let l : F .f32 := FloatOps.log (FloatOps.addf (FloatOps.subf
    (FloatOps.ofBits .f32 (IntOp.ori (IntOp.shrui .vector w 9#32) 1065353216#32)) (FloatOps.ofBits .f32 0x3F800000#32))
    (FloatOps.ofBits .f32 0x2B8CBCCC#32))
  FloatOps.divf (FloatOps.ofBits .f32 0x3F800000#32) (FloatOps.mulf l l)

/-- The last rounds and what the kernel makes of the word. -/
theorem weight_last (a b : IVec S8x12544 32) (y : S8x12544.Idx) :
    (k0_pay41 a b (shli a (broadcast S8x12544 13#32)) 19#32 : FVec F S8x12544 .f32) y
      = weightOf (last (upTo19 (b y, a y))) := rfl

/-- The counter of row `r`, lane `l` of chunk `k` at the grid point `i`. -/
theorem counter_at (i : grid0.Coords) (k : Fin k0_t1_loop.trips) (y : S8x12544.Idx) :
    k0_pay7 (k0_pay1 i) 0#32 1#32 k y
      = BitVec.ofNat 32 ((i 0).val * 800000 + (y 0).val * 100000 + (k.val * 12544 + (y 1).val)) + 1#32 := by
  show (BitVec.ofNat 32 (i 0).val * 800000#32 + BitVec.ofNat 32 (0 * 8 + (y 0).val) * 100000#32
      + BitVec.ofNat 32 (0 * 12544 + (y 1).val)) + Scf.iv 0#32 1#32 k * 12544#32 + 1#32 = _
  congr 1
  have hk : Scf.iv 0#32 1#32 k = BitVec.ofNat 32 k.val := by
    unfold Scf.iv; simp
  rw [hk]
  apply BitVec.eq_of_toNat_eq
  simp only [BitVec.toNat_add, BitVec.toNat_mul, BitVec.toNat_ofNat]
  omega

/-- `weight` at each place, from the word drawn there. -/
theorem weight_at (i : grid0.Coords) (k : Fin k0_t1_loop.trips) (y : S8x12544.Idx) :
    (weight i k : FVec F S8x12544 .f32) y
      = weightOf (word (BitVec.ofNat 32 ((i 0).val * 800000 + (y 0).val * 100000 + (k.val * 12544 + (y 1).val)))) := by
  have e : (weight i k : FVec F S8x12544 .f32) y
      = weightOf (last (upTo19 (k0_pay39 (state2 i k).1 (state2 i k).2 6#32 y, k0_pay38 (state2 i k).1 (state2 i k).2 6#32 y))) :=
    weight_last _ _ y
  rw [e, words16]
  have e2 : ((state2 i k).2 y, (state2 i k).1 y) = upTo11 ((state1 i k).2 y, (state1 i k).1 y) := words11 _ _ y
  have e1 : ((state1 i k).2 y, (state1 i k).1 y) = upTo5 (k0_pay7 (k0_pay1 i) 0#32 1#32 k y, k0_pay7 (k0_pay1 i) 0#32 1#32 k y) :=
    words5 _ _ _ k y
  rw [e2, e1, counter_at]
  rfl

end Cert.KernelIdeal.Val

end
-- ==== Proof.Kern.Apply.lean ====
/- The kernel's output block on real numbers: from a row of logits `X`, each place is the largest, over the eight samples,
   of the place's weight times the inverse of the sample's whole sum of weights, all with one constant taken out. -/
module

public import proofs.«01_k».proof.Proof.Kern.Payload
public import proofs.«01_k».proof.Proof.Kern.Rng

@[expose] public section

set_option maxRecDepth 16384

noncomputable section

namespace Cert.KernelIdeal.Val

open Cert.KernelIdeal Cert.KernelIdeal.Gen
open Idealize.ShloMosaic Cert.Softmax Cert.Uniform Cert.Rng
open scoped BigOperators

/-- `1 / (log u)²` on real numbers. -/
theorem weightOf_real (w : BitVec 32) : (weightOf w : Ideal .f32) = ((1 / (ulog w * ulog w) : ℝ) : EReal) := by
  have e : (weightOf w : Ideal .f32) = Ideal.div (Ideal.ofBits .f32 0x3F800000#32)
      (Ideal.log (Ideal.ofBits .f32 (IntOp.ori (IntOp.shrui .vector w 9#32) 1065353216#32) - Ideal.ofBits .f32 0x3F800000#32
          + Ideal.ofBits .f32 0x2B8CBCCC#32)
        * Ideal.log (Ideal.ofBits .f32 (IntOp.ori (IntOp.shrui .vector w 9#32) 1065353216#32) - Ideal.ofBits .f32 0x3F800000#32
          + Ideal.ofBits .f32 0x2B8CBCCC#32)) := rfl
  have hu : Ideal.ofBits .f32 (IntOp.ori (IntOp.shrui .vector w 9#32) 1065353216#32) - Ideal.ofBits .f32 0x3F800000#32
      + Ideal.ofBits .f32 0x2B8CBCCC#32 = ((uniform w : ℝ) : EReal) := by
    rw [Pattern.shift9]; exact uniform_eq w
  rw [e, hu, log_uniform, ← EReal.coe_mul, Ideal.ofBits_one_f32]
  exact div_coe 1 _ (mul_pos_of_neg_of_neg (ulog_neg w) (ulog_neg w)).ne'

/-- The word drawn for row `b`, sample `r`, lane `n`. -/
def wordAt (b : ℕ) (r : Fin 8) (n : ℕ) : BitVec 32 := word (BitVec.ofNat 32 (b * 800000 + r.val * 100000 + n))

/-- A lane of a chunk of the block. -/
theorem chunk_at (x : Vec Ideal S1x8x1x12544 .f32) (k : Fin 8) (l : Fin 12544) :
    chunk x (tr1 k) (ValueIdx.ix4 0 0 0 l) = x (ValueIdx.ix4 0 k 0 l) := by
  unfold chunk
  refine View.ld_unit_apply_of _ _ _ _ _ _ fun a => ?_
  refine Eq.trans ?_ (congrArg (· + (ValueIdx.ix4 (0 : Fin 1) (0 : Fin 1) (0 : Fin 1) l a).val) (congrFun (k0_off1_eq (tr1 k)) a).symm)
  match a with
  | 0 => rfl
  | 1 => rfl
  | 2 => rfl
  | 3 => exact (Nat.zero_add _).symm

/-- The exponentials of chunk `k` in sample `r` at lane `l`. -/
def lane (i : grid0.Coords) (x : Vec Ideal S1x8x1x12544 .f32) (k : Fin 8) (r : Fin 8) (l : Fin 12544) : EReal :=
  k0_pay3 x (weight i (tr1 k)) (chunk x (tr1 k)) (ValueIdx.ix2 r l)

/-- The second loop's scratch row holds those of its chunk. -/
theorem scratchRow_at (i : grid0.Coords) (x : Vec Ideal S1x8x1x12544 .f32) (k : Fin 8) (r : Fin 8) (l : Fin 12544) :
    (scratchRow i x k (ValueIdx.ix3 0 r l) : EReal) = lane i x k r l := by
  unfold scratchRow
  rw [View.ld_unit_apply_of _ _ _ _ _ (ValueIdx.ix3 k r l) (fun a => by
    refine Eq.trans ?_ (congrArg (· + (ValueIdx.ix3 (0 : Fin 1) r l a).val) (congrFun (k0_off3_eq (tr2 k)) a).symm)
    match a with
    | 0 => rfl
    | 1 => exact (Nat.zero_add _).symm
    | 2 => exact (Nat.zero_add _).symm)]
  unfold scratch lane
  rw [← pay4_at]
  refine congrArg (k0_pay4 x (weight i (tr1 k)) (chunk x (tr1 k))) (funext fun a => ?_)
  match a with
  | 0 => rfl
  | 1 => rfl
  | 2 => rfl

/-- The running sum before trip `n` adds up the chunks before it. -/
theorem carry_at (i : grid0.Coords) (x : Vec Ideal S1x8x1x12544 .f32) (r : Fin 8) (l : Fin 12544) (n : ℕ) (hn : n ≤ 8) :
    (carry i x n (ValueIdx.ix2 r l) : EReal)
      = ∑ k : Fin n, lane i x ⟨k.val, lt_of_lt_of_le k.isLt hn⟩ r l := by
  induction n with
  | zero =>
    rw [Fin.sum_univ_zero]
    exact pay2_at _
  | succ n ih =>
    have h : n < 8 := hn
    rw [Fin.sum_univ_castSucc]
    have e : carry i x (n + 1) = k0_pay5 x (carry i x n) (weight i (tr1 ⟨n, h⟩)) (chunk x (tr1 ⟨n, h⟩)) := by
      rw [carry, dif_pos h]
    rw [e]
    unfold k0_pay5
    rw [add_at, ih h.le]
    rfl

/-- The whole sum adds up all eight chunks. -/
theorem carry_whole (i : grid0.Coords) (x : Vec Ideal S1x8x1x12544 .f32) (r : Fin 8) (l : Fin 12544) :
    (carry i x 8 (ValueIdx.ix2 r l) : EReal) = ∑ k : Fin 8, lane i x k r l := carry_at i x r l 8 le_rfl

/-- An output block's place, from the lanes' exponentials. -/
theorem blockOut_lane (i : grid0.Coords) (x : Vec Ideal S1x8x1x12544 .f32) (k : Fin 8) (l : Fin 12544) :
    (blockOut i x (ValueIdx.ix4 0 k 0 l) : EReal) = (Finset.univ : Finset (Fin 8)).fold max ⊥ fun r =>
      lane i x k r l * Ideal.div ((1 : ℝ) : EReal) (∑ l : Fin 12544, ∑ k : Fin 8, lane i x k r l) := by
  rw [← blockOut_at i x k (ValueIdx.ix4 0 k 0 l) (ValueIdx.ix4 0 0 0 l) rfl (fun a => by
    match a with
    | 0 => rfl
    | 1 => rfl
    | 2 => rfl
    | 3 => rfl), pay6_at]
  refine congrArg (Finset.fold max ⊥ · Finset.univ) (funext fun r => ?_)
  rw [scratchRow_at, Finset.sum_congr rfl fun l _ => carry_whole i x r l]

variable (X : ℕ → EReal)

/-- What lane `n` of sample `r` of row `b` weighs. -/
def massAt (b : ℕ) (r : Fin 8) (n : ℕ) : ℝ := mass (X n) (wordAt b r n)

/-- A lane's exponential on real numbers, when the block holds the logits `X` and `c` is the constant subtracted. -/
theorem lane_real (i : grid0.Coords) (x : Vec Ideal S1x8x1x12544 .f32)
    (hx : ∀ (k : Fin 8) (l : Fin 12544), (x (ValueIdx.ix4 0 k 0 l) : EReal) = X (k.val * 12544 + l.val))
    (ht : ∀ n, X n ≠ ⊤) (c : ℝ) (hc : (shiftOf x : EReal) = (c : EReal)) (k : Fin 8) (r : Fin 8) (l : Fin 12544) :
    lane i x k r l = ((massAt X (i 0).val r (k.val * 12544 + l.val) * Real.exp (-c) : ℝ) : EReal) := by
  unfold lane
  rw [pay3_at, chunk_at, hx, hc, kernel_exp (ht _), weight_at, weightOf_real, ← EReal.coe_mul]
  refine congrArg Real.toEReal ?_
  unfold massAt mass wordAt
  exact mul_right_comm _ _ _

/-- The output block on real numbers: at lane `n = 12544 k + l`, the largest over the samples of the lane's weight times the
    inverse of the sum of all lanes' weights, with `exp (−c)` taken out of both. -/
theorem blockOut_real (i : grid0.Coords) (x : Vec Ideal S1x8x1x12544 .f32)
    (hx : ∀ (k : Fin 8) (l : Fin 12544), (x (ValueIdx.ix4 0 k 0 l) : EReal) = X (k.val * 12544 + l.val))
    (ht : ∀ n, X n ≠ ⊤) (hpad : ∀ n, 100000 ≤ n → X n = ⊥) (c : ℝ) (hc : (shiftOf x : EReal) = (c : EReal))
    (k : Fin 8) (l : Fin 12544) :
    (blockOut i x (ValueIdx.ix4 0 k 0 l) : EReal) = (Finset.univ : Finset (Fin 8)).fold max ⊥ fun r =>
      ((massAt X (i 0).val r (k.val * 12544 + l.val) * Real.exp (-c) : ℝ) : EReal)
        * Ideal.div ((1 : ℝ) : EReal)
          (((∑ n : Fin 100000, massAt X (i 0).val r n.val) * Real.exp (-c) : ℝ) : EReal) := by
  rw [blockOut_lane]
  refine congrArg (Finset.fold max ⊥ · Finset.univ) (funext fun r => ?_)
  rw [lane_real X i x hx ht c hc]
  refine congrArg (fun z : EReal => ((massAt X (i 0).val r (k.val * 12544 + l.val) * Real.exp (-c) : ℝ) : EReal)
    * Ideal.div ((1 : ℝ) : EReal) z) ?_
  rw [Finset.sum_congr rfl fun l _ => (Finset.sum_congr rfl fun k _ => lane_real X i x hx ht c hc k r l).trans (sum_coe _ _),
    sum_coe]
  refine congrArg Real.toEReal ?_
  rw [← sum_cut 100000 (8 * 12544) (by norm_num) (massAt X (i 0).val r) (fun n hn => by
    unfold massAt; rw [hpad n hn, mass_bot]), ← sum_chunks 12544 8, Finset.sum_mul]
  exact Finset.sum_congr rfl fun l _ => (Finset.sum_mul _ _ _).symm

/-- The constant subtracted is a real number when `X` has no plus infinity and some lane is not minus infinity. -/
theorem shift_exists (x : Vec Ideal S1x8x1x12544 .f32)
    (hx : ∀ (k : Fin 8) (l : Fin 12544), (x (ValueIdx.ix4 0 k 0 l) : EReal) = X (k.val * 12544 + l.val))
    (ht : ∀ n, X n ≠ ⊤) (hpad : ∀ n, 100000 ≤ n → X n = ⊥) (hb : ∃ n, X n ≠ ⊥) :
    ∃ c : ℝ, (shiftOf x : EReal) = (c : EReal) := by
  refine shiftOf_real x (fun i => ?_) ?_
  · have e : i = ValueIdx.ix4 (0 : Fin 1) (i 1) (0 : Fin 1) (i 3) := funext fun a => by
      match a with
      | 0 => exact Subsingleton.elim (α := Fin 1) _ _
      | 1 => rfl
      | 2 => exact Subsingleton.elim (α := Fin 1) _ _
      | 3 => rfl
    rw [e]
    exact (hx (i 1) (i 3)).trans_ne (ht _)
  · obtain ⟨n, hn⟩ := hb
    have hlt : n < 100000 := by
      by_contra h
      exact hn (hpad n (not_lt.1 h))
    refine ⟨ValueIdx.ix4 0 ⟨n / 12544, by omega⟩ 0 ⟨n % 12544, by omega⟩, ?_⟩
    rw [hx]
    show X (n / 12544 * 12544 + n % 12544) ≠ ⊥
    rw [show n / 12544 * 12544 + n % 12544 = n by omega]
    exact hn

end Cert.KernelIdeal.Val

end
-- ==== Proof.Kern.Value.lean ====
/- The kernel's run, and its result read at a place: each row's input block holds the row's logits, padded with minus
   infinity, and the row's result is cut out of the output block in lane order. -/
module

public import proofs.«01_k».proof.Proof.Kern.Array
public import proofs.«01_k».proof.Proof.Kern.Apply
public import proofs.«01_k».proof.Proof.Math.Row
public import Idealize.ShloMosaic.Lib.KernelVsHost

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic
open Cert.Softmax
open scoped BigOperators

/-- The launch's input array, as printed from the argument `A`. -/
def padded (A : FVec Ideal S32x1x100000 .f32) : FVec Ideal S32x8x1x12544 .f32 :=
  shapeCast S32x8x1x12544 (pad S32x100352 ![0, 0] ![0, 352] ![0, 0]
    (shapeCast S32x100000 A shapeCasts_S32x1x100000_S32x100000)
    (constant S_ .f32 0xFF800000#32) pads_S32x100000_S32x100352_000_03520 h_S_)
    shapeCasts_S32x100352_S32x8x1x12544

/-- It holds the rows' logits in lane order, then minus infinity. -/
theorem padded_at (A : FVec Ideal S32x1x100000 .f32) (b : Fin 32) (k : Fin 8) (l : Fin 12544) :
    padded A (ValueIdx.ix4 b k (0 : Fin 1) l) = Row.at' A b (k.val * 12544 + l.val) := by
  have hk := k.isLt
  have hl := l.isLt
  unfold padded
  rw [shapeCast_apply _ _ _ (ValueIdx.ix2 b (⟨k.val * 12544 + l.val, by omega⟩ : Fin 100352)) (by
    rw [Shape.rowMajor_val_two, Shape.rowMajor_val_four]
    show b.val * 100352 + (k.val * 12544 + l.val) = ((b.val * 8 + k.val) * 1 + 0) * 12544 + l.val
    omega)]
  by_cases h : k.val * 12544 + l.val < 100000
  · rw [pad_apply_of_inside _ _ _ _ _ _ _ _ (ValueIdx.ix2 b (⟨k.val * 12544 + l.val, h⟩ : Fin 100000)) (fun a => by
      match a with
      | 0 => show b.val = 0 + b.val * (0 + 1); omega
      | 1 => show k.val * 12544 + l.val = 0 + (k.val * 12544 + l.val) * (0 + 1); omega),
      shapeCast_apply _ _ _ (ValueIdx.ix3 b (0 : Fin 1) (⟨k.val * 12544 + l.val, h⟩ : Fin 100000)) (by
        rw [Shape.rowMajor_val_two, Shape.rowMajor_val_three]
        show (b.val * 1 + 0) * 100000 + (k.val * 12544 + l.val) = b.val * 100000 + (k.val * 12544 + l.val)
        omega)]
    exact (Row.at_lt A b ⟨_, h⟩).symm
  · rw [pad_apply_of_not_inside _ _ _ _ _ _ _ _ (1 : Fin 2) (by
      rintro ⟨-, -, h3⟩
      refine h ?_
      have h3' : (k.val * 12544 + l.val - 0) / (0 + 1) < 100000 := h3
      omega), Row.at_ge A b _ (not_lt.1 h)]
    exact Pattern.minus_inf

variable (m : (ℓ : Loc nD τ sig) → Buf (Elt Ideal) ℓ) (ρ : Dev nD → PrngReg)

/-- The argument's contents. -/
abbrev arg (c : Dev nD) : FVec Ideal S32x1x100000 .f32 := m ((c.tc : Thread nD τ).loc main_arg0)

/-- Row `b`'s input block. -/
theorem inBlock_at (c : Dev nD) (b : Fin 32) (k : Fin 8) (l : Fin 12544) :
    (iblk m c 0 (pt b) : FVec Ideal S1x8x1x12544 .f32) (ValueIdx.ix4 0 k 0 l) = Row.at' (arg m c) b (k.val * 12544 + l.val) := by
  have e := blk0_emb (pt b) (ValueIdx.ix4 (0 : Fin 1) k (0 : Fin 1) l : S1x8x1x12544.Idx)
  have hy : (((cfg0.win 0).blk (pt b)).view.emb (ValueIdx.ix4 (0 : Fin 1) k (0 : Fin 1) l : S1x8x1x12544.Idx) : S32x8x1x12544.Idx)
      = ValueIdx.ix4 b k (0 : Fin 1) l := funext fun a => Fin.ext (by
    rw [e a]
    match a with
    | 0 => show b.val * 1 + 0 = b.val; omega
    | 1 => show 0 * 8 + k.val = k.val; omega
    | 2 => rfl
    | 3 => show 0 * 12544 + l.val = l.val; omega)
  rw [← padded_at, ← hy]
  have hv : (V m c main_v2 : S32x8x1x12544.Idx → EReal) = padded (arg m c) := V_v2 m c
  rw [← hv]
  rfl

/-- The result's contents, from the launch's output array. -/
def value (c : Dev nD) : FVec Ideal S32x1x100000 .f32 :=
  extractStridedSlice S32x1x100000 ![0, 0, 0]
    (shapeCast S32x1x100352 (result m c) shapeCasts_S32x8x1x12544_S32x1x100352)
    slices_S32x1x100352_S32x1x100000_0_0_0

/-- The result at row `b`, lane `n`, is the row's output block at that lane. -/
theorem value_at (c : Dev nD) (b : Fin 32) (n : Fin 100000) :
    value m c (ValueIdx.ix3 b (0 : Fin 1) n) = blockOut (grid0.coords (pt b)) (iblk m c 0 (pt b))
      (ValueIdx.ix4 (0 : Fin 1) (⟨n.val / 12544, by omega⟩ : Fin 8) (0 : Fin 1) (⟨n.val % 12544, by omega⟩ : Fin 12544)) := by
  have hn := n.isLt
  unfold value
  rw [extractStridedSlice_apply _ _ _ _ (ValueIdx.ix3 b (0 : Fin 1) (⟨n.val, by omega⟩ : Fin 100352)) (fun a => by
    match a with
    | 0 => exact (Nat.zero_add _).symm
    | 1 => rfl
    | 2 => exact (Nat.zero_add _).symm),
    shapeCast_apply _ _ _ (ValueIdx.ix4 b (⟨n.val / 12544, by omega⟩ : Fin 8) (0 : Fin 1) (⟨n.val % 12544, by omega⟩ : Fin 12544)) (by
      rw [Shape.rowMajor_val_three, Shape.rowMajor_val_four]
      show ((b.val * 8 + n.val / 12544) * 1 + 0) * 12544 + n.val % 12544 = (b.val * 1 + 0) * 100352 + n.val
      omega)]
  unfold result
  refine congrArg (blockOut (grid0.coords (pt b)) (iblk m c 0 (pt b))) (funext fun a => ?_)
  match a with
  | 0 => rfl
  | 1 => rfl
  | 2 => rfl
  | 3 => rfl

/-- The kernel on real numbers: for some constant `d > 0`, the result at row `b`, lane `n` is the largest, over the samples,
    of the lane's weight times the inverse of the sum of the row's weights, `d` taken out of both. -/
theorem value_real (c : Dev nD) (hA : Row.Finite (arg m c)) (b : Fin 32) (n : Fin 100000) :
    ∃ d : ℝ, 0 < d ∧ (value m c (ValueIdx.ix3 b (0 : Fin 1) n) : EReal) = (Finset.univ : Finset (Fin 8)).fold max ⊥ fun r =>
      ((massAt (Row.at' (arg m c) b) b.val r n.val * d : ℝ) : EReal)
        * Ideal.div ((1 : ℝ) : EReal)
          (((∑ n : Fin 100000, massAt (Row.at' (arg m c) b) b.val r n.val) * d : ℝ) : EReal) := by
  obtain ⟨s, hs⟩ := shift_exists (Row.at' (arg m c) b) (iblk m c 0 (pt b)) (inBlock_at m c b) (hA.ne_top b)
    (Row.at_ge (arg m c) b) (hA.exists_ne_bot b)
  refine ⟨Real.exp (-s), Real.exp_pos _, ?_⟩
  have hn := n.isLt
  have e := blockOut_real (Row.at' (arg m c) b) (grid0.coords (pt b)) (iblk m c 0 (pt b)) (inBlock_at m c b) (hA.ne_top b)
    (Row.at_ge (arg m c) b) s hs (⟨n.val / 12544, by omega⟩ : Fin 8) (⟨n.val % 12544, by omega⟩ : Fin 12544)
  have hb : (grid0.coords (pt b) 0).val = b.val := coords_val (pt b)
  have hl : n.val / 12544 * 12544 + n.val % 12544 = n.val := by omega
  rw [hb] at e
  dsimp only at e
  rw [hl] at e
  exact (value_at m c b n).trans e

/-- The kernel's run: the result holds `value` and the argument is unchanged. -/
theorem run_value : θ_run defs (onTc (τ := τ) (main (F := Ideal))) ⟨m, fun _ => 0, ρ⟩ fun r => ∀ c : Dev nD,
    r.2.mem ((c.tc : Thread nD τ).loc main_v5) = value m c
    ∧ r.2.mem ((c.tc : Thread nD τ).loc main_arg0) = m ((c.tc : Thread nD τ).loc main_arg0) := by
  run_from run_main m ρ
  · exact tail_v5 m _
  · exact W_main_arg0 m (dats m) _

end Cert.KernelIdeal.Val

end
-- ==== Proof.Ref.Rng.lean ====
/- The reference's generator, element by element: the word drawn for a sample's place is `Cert.Rng.word` at the place's
   number in row-major order. -/
module

public import proofs.«01_k».proof.Proof.Rng
public import proofs.«01_k».proof.Proof.Ref.Run
public import Idealize.ShloMosaic.Lib.KernelVsHost
public import Idealize.ShloMosaic.Lib.IdealHost

@[expose] public section

set_option maxRecDepth 16384

noncomputable section

namespace Cert.ReferenceIdeal.Value

open Cert.ReferenceIdeal Cert.ReferenceIdeal.Gen
open Idealize.ShloMosaic Cert.Rng

variable {F : FTy → Type} [FloatOps F]

/-- A scalar word spread over the samples. -/
abbrev spread (x : IVec S_ 32) : IVec S32x8x100000 32 := broadcastInDim S32x8x100000 ![] bcast_S_S32x8x100000 x

/-- A scalar spread over the samples is the scalar at every place. -/
theorem spread_at (x : IVec S_ 32) (i : S32x8x100000.Idx) : spread x i = x ValueIdx.ix0 :=
  ValueIdx.broadcastInDim_scalar_apply _ _ _

/-- The second word after a round, as the reference computes it. -/
theorem turned (a b : IVec S32x8x100000 32) (r s : BitVec 32) (i : S32x8x100000.Idx) :
    xori a (ori (Host.shli b (spread (constantI S_ 32 r))) (Host.shrui b (spread (constantI S_ 32 s)))) i
      = turn r s (b i) ^^^ a i := by
  rw [hostShli_eq_shli, hostShrui_eq_shrui]
  exact BitVec.xor_comm _ _

/-- One round of the reference is `step`. -/
theorem ref_step (a b : IVec S32x8x100000 32) (r s : BitVec 32) (i : S32x8x100000.Idx) :
    (addi a (xori a (ori (Host.shli b (spread (constantI S_ 32 r))) (Host.shrui b (spread (constantI S_ 32 s))))) i,
      xori a (ori (Host.shli b (spread (constantI S_ 32 r))) (Host.shrui b (spread (constantI S_ 32 s)))) i)
      = step r s (a i, b i) := by
  have e := turned a b r s i
  refine Prod.ext ?_ e
  exact congrArg (a i + ·) e

/-- The second word after a round and the key addition. -/
theorem turned_key (a b : IVec S32x8x100000 32) (f : IVec S_ 32) (r s d q : BitVec 32) (hf : f ValueIdx.ix0 + q = d)
    (i : S32x8x100000.Idx) :
    addi (addi (xori a (ori (Host.shli b (spread (constantI S_ 32 r))) (Host.shrui b (spread (constantI S_ 32 s)))))
      (spread f)) (spread (constantI S_ 32 q)) i = (turn r s (b i) ^^^ a i) + d := by
  have e := turned a b r s i
  show xori a (ori (Host.shli b (spread (constantI S_ 32 r))) (Host.shrui b (spread (constantI S_ 32 s)))) i
    + spread f i + q = _
  rw [e, spread_at, BitVec.add_assoc, hf]

/-- A round and the key addition of the reference are `inject`. -/
theorem ref_inject (a b : IVec S32x8x100000 32) (e f : IVec S_ 32) (r s c d q : BitVec 32) (he : e ValueIdx.ix0 = c)
    (hf : f ValueIdx.ix0 + q = d) (i : S32x8x100000.Idx) :
    (addi (addi a (spread e)) (addi (addi (xori a (ori (Host.shli b (spread (constantI S_ 32 r)))
        (Host.shrui b (spread (constantI S_ 32 s))))) (spread f)) (spread (constantI S_ 32 q))) i,
      addi (addi (xori a (ori (Host.shli b (spread (constantI S_ 32 r)))
        (Host.shrui b (spread (constantI S_ 32 s))))) (spread f)) (spread (constantI S_ 32 q)) i)
      = inject r s c d (a i, b i) := by
  have t := turned_key a b f r s d q hf i
  refine Prod.ext ?_ t
  show a i + spread e i + _ = a i + c + _
  rw [spread_at, he]
  exact congrArg (a i + c + ·) t

variable (V0 : Valuation τ sig (Elt F)) (i : S32x8x100000.Idx)

/-- The first key word is zero. -/
theorem key0 : res_main_v8 V0 ValueIdx.ix0 = 0#32 := rfl
/-- The second key word is one. -/
theorem key1 : res_main_v10 V0 ValueIdx.ix0 = 1#32 := by
  show (1#32 &&& 4294967295#32 : BitVec 32) = 1#32
  decide
/-- The third key word is the fixed pattern combined with the other two. -/
theorem key2 : res_main_call0_v1 V0 ValueIdx.ix0 = 466688987#32 := by
  show IntOp.xori (w := 32) (IntOp.xori (w := 32) (res_main_v8 V0 ValueIdx.ix0) (res_main_v10 V0 ValueIdx.ix0)) 466688986#32 = _
  rw [key0, key1]; rfl

/-- A 64-bit word below 2^32 has no upper half. -/
theorem upper_zero (w : BitVec 64) (h : w.toNat < 2 ^ 32) : (IntOp.shrui .host w 32#64).setWidth 32 = 0#32 := by
  apply BitVec.eq_of_toNat_eq
  rw [show IntOp.shrui .host w 32#64 = w >>> 32#64 from if_pos (by decide), BitVec.toNat_setWidth,
    BitVec.ushiftRight_eq', BitVec.toNat_ushiftRight, Nat.shiftRight_eq_div_pow]
  show _ / 2 ^ 32 % 2 ^ 32 = 0
  omega

/-- The 64-bit counter of a place is its number in row-major order. -/
theorem counter : (res_main_v21 V0 i : BitVec 64).toNat = (i 0).val * 800000 + (i 1).val * 100000 + (i 2).val := by
  have h0 : (i 0).val < 32 := (i 0).isLt
  have h1 : (i 1).val < 8 := (i 1).isLt
  have h2 : (i 2).val < 100000 := (i 2).isLt
  show ((800000#64 * BitVec.ofNat 64 (i 0).val + 100000#64 * BitVec.ofNat 64 (i 1).val
    + 1#64 * BitVec.ofNat 64 (i 2).val : BitVec 64)).toNat = _
  simp only [BitVec.toNat_add, BitVec.toNat_mul, BitVec.toNat_ofNat]
  omega

/-- The counter's lower word is the number itself. -/
theorem counter_lo : trunci 32 (res_main_v21 V0) natLt_32_64 i
    = BitVec.ofNat 32 ((i 0).val * 800000 + (i 1).val * 100000 + (i 2).val) := by
  have h0 : (i 0).val < 32 := (i 0).isLt
  have h1 : (i 1).val < 8 := (i 1).isLt
  have h2 : (i 2).val < 100000 := (i 2).isLt
  show (res_main_v21 V0 i : BitVec 64).setWidth 32 = _
  apply BitVec.eq_of_toNat_eq
  rw [BitVec.toNat_setWidth, counter, BitVec.toNat_ofNat]

/-- The counter's upper word is zero. -/
theorem counter_hi : trunci 32 (Host.shrui (res_main_v21 V0)
    (broadcastInDim S32x8x100000 ![] bcast_S_S32x8x100000 (constantI S_ 64 32#64))) natLt_32_64 i = 0#32 := by
  have h0 : (i 0).val < 32 := (i 0).isLt
  have h1 : (i 1).val < 8 := (i 1).isLt
  have h2 : (i 2).val < 100000 := (i 2).isLt
  exact upper_zero (res_main_v21 V0 i) (by rw [counter]; omega)

/-- The two words before the first round. -/
theorem start : (res_main_call0_v6 V0 i, res_main_call0_v5 V0 i)
    = (BitVec.ofNat 32 ((i 0).val * 800000 + (i 1).val * 100000 + (i 2).val) + 1#32,
      BitVec.ofNat 32 ((i 0).val * 800000 + (i 1).val * 100000 + (i 2).val) + 1#32) := by
  have h5 : res_main_call0_v5 V0 i = BitVec.ofNat 32 ((i 0).val * 800000 + (i 1).val * 100000 + (i 2).val) + 1#32 := by
    show trunci 32 (res_main_v21 V0) natLt_32_64 i + spread (res_main_v10 V0) i = _
    rw [counter_lo, spread_at, key1]
  refine Prod.ext ?_ h5
  show trunci 32 (Host.shrui (res_main_v21 V0)
    (broadcastInDim S32x8x100000 ![] bcast_S_S32x8x100000 (constantI S_ 64 32#64))) natLt_32_64 i
    + spread (res_main_v8 V0) i + res_main_call0_v5 V0 i = _
  rw [counter_hi, spread_at, key0, h5, BitVec.add_zero, BitVec.zero_add]

/-- The first five rounds. -/
theorem five : (res_main_call0_v47 V0 i, res_main_call0_v46 V0 i)
    = upTo5 (res_main_call0_v6 V0 i, res_main_call0_v5 V0 i) := by
  have h0 : (res_main_call0_v13 V0 i, res_main_call0_v12 V0 i)
      = step 13#32 19#32 (res_main_call0_v6 V0 i, res_main_call0_v5 V0 i) :=
    ref_step (res_main_call0_v6 V0) (res_main_call0_v5 V0) _ _ i
  have h1 : (res_main_call0_v20 V0 i, res_main_call0_v19 V0 i)
      = step 15#32 17#32 (res_main_call0_v13 V0 i, res_main_call0_v12 V0 i) :=
    ref_step (res_main_call0_v13 V0) (res_main_call0_v12 V0) _ _ i
  have h2 : (res_main_call0_v27 V0 i, res_main_call0_v26 V0 i)
      = step 26#32 6#32 (res_main_call0_v20 V0 i, res_main_call0_v19 V0 i) :=
    ref_step (res_main_call0_v20 V0) (res_main_call0_v19 V0) _ _ i
  have h3 : (res_main_call0_v40 V0 i, res_main_call0_v39 V0 i)
      = inject 6#32 26#32 1#32 466688988#32 (res_main_call0_v27 V0 i, res_main_call0_v26 V0 i) :=
    ref_inject (res_main_call0_v27 V0) (res_main_call0_v26 V0) (res_main_v10 V0) (res_main_call0_v1 V0) _ _ _ _ 1#32
      (key1 V0) (by rw [key2]; rfl) i
  have h4 : (res_main_call0_v47 V0 i, res_main_call0_v46 V0 i)
      = step 17#32 15#32 (res_main_call0_v40 V0 i, res_main_call0_v39 V0 i) :=
    ref_step (res_main_call0_v40 V0) (res_main_call0_v39 V0) _ _ i
  rw [h4, h3, h2, h1, h0]; rfl

/-- The rounds up to the eleventh. -/
theorem eleven : (res_main_call0_v95 V0 i, res_main_call0_v94 V0 i)
    = upTo11 (res_main_call0_v47 V0 i, res_main_call0_v46 V0 i) := by
  have h0 : (res_main_call0_v54 V0 i, res_main_call0_v53 V0 i)
      = step 29#32 3#32 (res_main_call0_v47 V0 i, res_main_call0_v46 V0 i) :=
    ref_step (res_main_call0_v47 V0) (res_main_call0_v46 V0) _ _ i
  have h1 : (res_main_call0_v61 V0 i, res_main_call0_v60 V0 i)
      = step 16#32 16#32 (res_main_call0_v54 V0 i, res_main_call0_v53 V0 i) :=
    ref_step (res_main_call0_v54 V0) (res_main_call0_v53 V0) _ _ i
  have h2 : (res_main_call0_v74 V0 i, res_main_call0_v73 V0 i)
      = inject 24#32 8#32 466688987#32 2#32 (res_main_call0_v61 V0 i, res_main_call0_v60 V0 i) :=
    ref_inject (res_main_call0_v61 V0) (res_main_call0_v60 V0) (res_main_call0_v1 V0) (res_main_v8 V0) _ _ _ _ 2#32
      (key2 V0) (by rw [key0]; rfl) i
  have h3 : (res_main_call0_v81 V0 i, res_main_call0_v80 V0 i)
      = step 13#32 19#32 (res_main_call0_v74 V0 i, res_main_call0_v73 V0 i) :=
    ref_step (res_main_call0_v74 V0) (res_main_call0_v73 V0) _ _ i
  have h4 : (res_main_call0_v88 V0 i, res_main_call0_v87 V0 i)
      = step 15#32 17#32 (res_main_call0_v81 V0 i, res_main_call0_v80 V0 i) :=
    ref_step (res_main_call0_v81 V0) (res_main_call0_v80 V0) _ _ i
  have h5 : (res_main_call0_v95 V0 i, res_main_call0_v94 V0 i)
      = step 26#32 6#32 (res_main_call0_v88 V0 i, res_main_call0_v87 V0 i) :=
    ref_step (res_main_call0_v88 V0) (res_main_call0_v87 V0) _ _ i
  rw [h5, h4, h3, h2, h1, h0]; rfl

/-- The rounds up to the sixteenth. -/
theorem sixteen : (res_main_call0_v142 V0 i, res_main_call0_v141 V0 i)
    = upTo16 (res_main_call0_v95 V0 i, res_main_call0_v94 V0 i) := by
  have h0 : (res_main_call0_v108 V0 i, res_main_call0_v107 V0 i)
      = inject 6#32 26#32 0#32 4#32 (res_main_call0_v95 V0 i, res_main_call0_v94 V0 i) :=
    ref_inject (res_main_call0_v95 V0) (res_main_call0_v94 V0) (res_main_v8 V0) (res_main_v10 V0) _ _ _ _ 3#32
      (key0 V0) (by rw [key1]; rfl) i
  have h1 : (res_main_call0_v115 V0 i, res_main_call0_v114 V0 i)
      = step 17#32 15#32 (res_main_call0_v108 V0 i, res_main_call0_v107 V0 i) :=
    ref_step (res_main_call0_v108 V0) (res_main_call0_v107 V0) _ _ i
  have h2 : (res_main_call0_v122 V0 i, res_main_call0_v121 V0 i)
      = step 29#32 3#32 (res_main_call0_v115 V0 i, res_main_call0_v114 V0 i) :=
    ref_step (res_main_call0_v115 V0) (res_main_call0_v114 V0) _ _ i
  have h3 : (res_main_call0_v129 V0 i, res_main_call0_v128 V0 i)
      = step 16#32 16#32 (res_main_call0_v122 V0 i, res_main_call0_v121 V0 i) :=
    ref_step (res_main_call0_v122 V0) (res_main_call0_v121 V0) _ _ i
  have h4 : (res_main_call0_v142 V0 i, res_main_call0_v141 V0 i)
      = inject 24#32 8#32 1#32 466688991#32 (res_main_call0_v129 V0 i, res_main_call0_v128 V0 i) :=
    ref_inject (res_main_call0_v129 V0) (res_main_call0_v128 V0) (res_main_v10 V0) (res_main_call0_v1 V0) _ _ _ _ 4#32
      (key1 V0) (by rw [key2]; rfl) i
  rw [h4, h3, h2, h1, h0]; rfl

/-- The rounds up to the nineteenth. -/
theorem nineteen : (res_main_call0_v163 V0 i, res_main_call0_v162 V0 i)
    = upTo19 (res_main_call0_v142 V0 i, res_main_call0_v141 V0 i) := by
  have h0 : (res_main_call0_v149 V0 i, res_main_call0_v148 V0 i)
      = step 13#32 19#32 (res_main_call0_v142 V0 i, res_main_call0_v141 V0 i) :=
    ref_step (res_main_call0_v142 V0) (res_main_call0_v141 V0) _ _ i
  have h1 : (res_main_call0_v156 V0 i, res_main_call0_v155 V0 i)
      = step 15#32 17#32 (res_main_call0_v149 V0 i, res_main_call0_v148 V0 i) :=
    ref_step (res_main_call0_v149 V0) (res_main_call0_v148 V0) _ _ i
  have h2 : (res_main_call0_v163 V0 i, res_main_call0_v162 V0 i)
      = step 26#32 6#32 (res_main_call0_v156 V0 i, res_main_call0_v155 V0 i) :=
    ref_step (res_main_call0_v156 V0) (res_main_call0_v155 V0) _ _ i
  rw [h2, h1, h0]; rfl

/-- The drawn words, as one array. -/
def drawn : IVec S32x8x100000 32 :=
  xori (addi (res_main_call0_v163 V0) (spread (res_main_call0_v1 V0)))
    (addi (addi (xori (res_main_call0_v163 V0) (ori (Host.shli (res_main_call0_v162 V0) (spread (constantI S_ 32 6#32)))
      (Host.shrui (res_main_call0_v162 V0) (spread (constantI S_ 32 26#32))))) (spread (res_main_v8 V0)))
      (spread (constantI S_ 32 5#32)))

/-- The word drawn for a place is the generator's word at the place's number. -/
theorem drawn_at : drawn V0 i = word (BitVec.ofNat 32 ((i 0).val * 800000 + (i 1).val * 100000 + (i 2).val)) := by
  have t := turned_key (res_main_call0_v163 V0) (res_main_call0_v162 V0) (res_main_v8 V0) 6#32 26#32 5#32 5#32
    (by rw [key0]; rfl) i
  have e : drawn V0 i = last (res_main_call0_v163 V0 i, res_main_call0_v162 V0 i) := by
    show IntOp.xori (w := 32) (IntOp.addi (w := 32) (res_main_call0_v163 V0 i) (spread (res_main_call0_v1 V0) i)) _
      = IntOp.xori (w := 32) (IntOp.addi (w := 32) (res_main_call0_v163 V0 i) 466688987#32) _
    rw [spread_at, key2]
    exact congrArg (IntOp.xori (w := 32) (IntOp.addi (w := 32) (res_main_call0_v163 V0 i) 466688987#32)) t
  rw [e, nineteen, sixteen, eleven, five, start]
  rfl

end Cert.ReferenceIdeal.Value

end
-- ==== Proof.Ref.Apply.lean ====
/- The reference's noisy logits read at a place: the real-number noisy logit of the place's drawn word and its logit. -/
module

public import proofs.«01_k».proof.Proof.Ref.Rng
public import proofs.«01_k».proof.Proof.Math.Bits
public import proofs.«01_k».proof.Proof.Math.Softmax

@[expose] public section

set_option maxRecDepth 16384

noncomputable section

namespace Cert.ReferenceIdeal.Value

open Cert.ReferenceIdeal Cert.ReferenceIdeal.Gen
open Idealize.ShloMosaic Cert.Rng Cert.Uniform Cert.Softmax
open scoped BigOperators

/-- A scalar float spread over the samples. -/
abbrev spreadF (x : FVec Ideal S_ .f32) : FVec Ideal S32x8x100000 .f32 :=
  broadcastInDim S32x8x100000 ![] bcast_S_S32x8x100000 x

variable (V0 : Valuation τ sig (Elt Ideal))

/-- The logit of row `b`, lane `n`. -/
def logit (b : Fin 32) (n : Fin 100000) : EReal :=
  (V0 (Proc.devRef .tc main_arg0) : S32x1x100000.Idx → EReal) (ValueIdx.ix3 b 0 n)

/-- The word drawn for row `b`, sample `r`, lane `n`. -/
def wordAt (b : Fin 32) (r : Fin 8) (n : ℕ) : BitVec 32 :=
  word (BitVec.ofNat 32 (b.val * 800000 + r.val * 100000 + n))

/-- The reference's noisy logit of a drawn word and a logit, as printed. -/
def noisyOf (w : BitVec 32) (x : EReal) : EReal :=
  Ideal.div (-Ideal.log (-Ideal.log (max (Ideal.ofBits .f32 0x2B8CBCCC#32)
    ((Ideal.ofBits .f32 (IntOp.ori (IntOp.shrui .vector w 9#32) 1065353216#32) - Ideal.ofBits .f32 0x3F800000#32)
      * Ideal.ofBits .f32 0x3F800000#32 + Ideal.ofBits .f32 0x2B8CBCCC#32))) + x) (Ideal.ofBits .f32 0x3F000000#32)

/-- It is the noisy logit of real arithmetic. -/
theorem noisyOf_eq (w : BitVec 32) (x : EReal) : noisyOf w x = noisy x w := by
  have hu := uniform_eq w
  unfold noisyOf noisy
  rw [Pattern.shift9, Ideal.ofBits_one_f32, mul_one]
  show Ideal.div (-Ideal.log (-Ideal.log (max _ (Ideal.ofBits .f32 (w >>> 9 ||| 1065353216#32) - 1 + _))) + x) _ = _
  rw [Ideal.ofBits_one_f32] at hu
  rw [hu, Pattern.half, ofBits_tiny, max_eq_right, log_uniform, ← EReal.coe_neg]
  · have h : 0 < -ulog w := neg_pos.2 (ulog_neg w)
    have hl : Ideal.log ((-ulog w : ℝ) : EReal) = ((Real.log (-ulog w) : ℝ) : EReal) := if_neg (not_le.2 h)
    rw [hl, ← EReal.coe_neg]
  · refine EReal.coe_le_coe_iff.2 ?_
    unfold uniform
    have : (0 : ℝ) ≤ ((w >>> 9).toNat : ℝ) / 2 ^ 23 := by positivity
    linarith

/-- The noisy logits as one array, from the drawn words and the logits spread over the samples. -/
def noisyArr (d : IVec S32x8x100000 32) (x : FVec Ideal S32x8x100000 .f32) : FVec Ideal S32x8x100000 .f32 :=
  Host.divf (addf (Host.negf (Host.log (Host.negf (Host.log (maximumf (spreadF (constant S_ .f32 0x2B8CBCCC#32))
    (addf (mulf (subf (bitcastToFloat (F := Ideal) .f32 (ori (Host.shrui d (spread (constantI S_ 32 9#32)))
      (spread (constantI S_ 32 1065353216#32)))) (spreadF (constant S_ .f32 0x3F800000#32)))
      (spreadF (constant S_ .f32 0x3F800000#32))) (spreadF (constant S_ .f32 0x2B8CBCCC#32)))))))) x)
    (spreadF (constant S_ .f32 0x3F000000#32))

/-- The array of noisy logits at a place is the noisy logit of the place's word and logit. -/
theorem noisyArr_at (d : IVec S32x8x100000 32) (x : FVec Ideal S32x8x100000 .f32) (i : S32x8x100000.Idx) :
    noisyArr d x i = noisyOf (d i) (x i) := by
  unfold noisyArr
  rw [hostShrui_eq_shrui]
  rfl

/-- The printed noisy logits are that array. -/
theorem v48_printed : (res_main_v48 V0 : S32x8x100000.Idx → EReal)
    = noisyArr (drawn V0) (broadcastInDim S32x8x100000 ![0, 1, 2] bcast_S32x1x100000_S32x8x100000_0_1_2
        (V0 (Proc.devRef .tc main_arg0))) := by
  unfold res_main_v48 noisyArr drawn
  rfl

/-- The noisy logit of row `b`, sample `r`, lane `n`. -/
theorem v48_at (b : Fin 32) (r : Fin 8) (n : Fin 100000) :
    (res_main_v48 V0 : S32x8x100000.Idx → EReal) (ValueIdx.ix3 b r n) = noisy (logit V0 b n) (wordAt b r n.val) := by
  rw [v48_printed, noisyArr_at, noisyOf_eq, drawn_at]
  congr 1
  exact broadcastInDim_apply _ _ _ _ (ValueIdx.ix3 b 0 n) (fun a => by
    match a with
    | 0 => rfl
    | 1 => rfl
    | 2 => rfl)

end Cert.ReferenceIdeal.Value

end
-- ==== Proof.Ref.Result.lean ====
/- The reference's result read at a place: the largest, over the eight samples, of the place's share of the row's softmax
   of noisy logits. -/
module

public import proofs.«01_k».proof.Proof.Ref.Apply

@[expose] public section

set_option maxRecDepth 16384

noncomputable section

namespace Cert.ReferenceIdeal.Value

open Cert.ReferenceIdeal Cert.ReferenceIdeal.Gen
open Idealize.ShloMosaic Cert.Rng Cert.Uniform Cert.Softmax
open scoped BigOperators

variable (V0 : Valuation τ sig (Elt Ideal))

/-- The reduction of a sample's lanes, as a shape relation. -/
theorem red2 : S32x8x100000.Reduces [2] S32x8 := by decide
/-- The reduction of the samples, as a shape relation. -/
theorem red1 : S32x8x100000.Reduces [1] S32x100000 := by decide

/-- The place a reduction over lanes reads at lane `n` of sample `r` of row `b`. -/
theorem lift2 (b : Fin 32) (r : Fin 8) (n : Fin 100000) : red2.lift (ValueIdx.ix2 b r) n = ValueIdx.ix3 b r n := by
  funext a; match a with
  | 0 => rfl
  | 1 => rfl
  | 2 => rfl

/-- The place a reduction over samples reads at sample `r` of row `b`, lane `n`. -/
theorem lift1 (b : Fin 32) (n : Fin 100000) (r : Fin 8) : red1.lift (ValueIdx.ix2 b n) r = ValueIdx.ix3 b r n := by
  funext a; match a with
  | 0 => rfl
  | 1 => rfl
  | 2 => rfl

/-- The maximum over a sample's lanes. -/
theorem max2 (x : FVec Ideal S32x8x100000 .f32) (b : Fin 32) (r : Fin 8) :
    (Host.reduce FloatOps.maximumf x (constant S_ .f32 0xFF800000#32) reducesTo_S32x8x100000_S32x8_d2 h_S_
      : FVec Ideal S32x8 .f32) (ValueIdx.ix2 b r)
      = (Finset.univ : Finset (Fin 100000)).fold max ⊥ fun n => x (ValueIdx.ix3 b r n) := by
  have e := (congrFun (hostReduce_maximumf_eq_multiReduction x 0xFF800000#32 reducesTo_S32x8x100000_S32x8_d2 h_S_ red2
    (.inl rfl) rfl) (ValueIdx.ix2 b r)).trans (Ideal.multiReduction_maximumf_single x 0xFF800000#32 red2 (.inl rfl) rfl (ValueIdx.ix2 b r))
  rw [show (FloatOps.ofBits .f32 0xFF800000#32 : Ideal .f32) = ⊥ from Pattern.minus_inf] at e
  exact e.trans (congrArg (Finset.fold max ⊥ · Finset.univ) (funext (fun n => congrArg x (lift2 b r n))))

/-- The maximum over the samples. -/
theorem max1 (x : FVec Ideal S32x8x100000 .f32) (b : Fin 32) (n : Fin 100000) :
    (Host.reduce FloatOps.maximumf x (constant S_ .f32 0xFF800000#32) reducesTo_S32x8x100000_S32x100000_d1 h_S_
      : FVec Ideal S32x100000 .f32) (ValueIdx.ix2 b n)
      = (Finset.univ : Finset (Fin 8)).fold max ⊥ fun r => x (ValueIdx.ix3 b r n) := by
  have e := (congrFun (hostReduce_maximumf_eq_multiReduction x 0xFF800000#32 reducesTo_S32x8x100000_S32x100000_d1 h_S_ red1
    (.inl rfl) rfl) (ValueIdx.ix2 b n)).trans (Ideal.multiReduction_maximumf_single x 0xFF800000#32 red1 (.inl rfl) rfl (ValueIdx.ix2 b n))
  rw [show (FloatOps.ofBits .f32 0xFF800000#32 : Ideal .f32) = ⊥ from Pattern.minus_inf] at e
  exact e.trans (congrArg (Finset.fold max ⊥ · Finset.univ) (funext (fun r => congrArg x (lift1 b n r))))

/-- The sum over a sample's lanes. -/
theorem sum2 (x : FVec Ideal S32x8x100000 .f32) (b : Fin 32) (r : Fin 8) :
    (Host.reduceAdd x (constant S_ .f32 0x00000000#32) reducesTo_S32x8x100000_S32x8_d2 h_S_
      : S32x8.Idx → EReal) (ValueIdx.ix2 b r) = ∑ n : Fin 100000, x (ValueIdx.ix3 b r n) := by
  rw [ValueIdx.hostReduceAdd_apply, Ideal.hostReduceAdd_single _ red2]
  rw [show (constant S_ .f32 0x00000000#32 (Shape.Idx.first h_S_) : Ideal .f32) = 0 from Ideal.ofBits_zero_f32, zero_add]
  exact Finset.sum_congr rfl fun n _ => congrArg x (lift2 b r n)

/-- A value per sample, spread back over its lanes. -/
theorem spread2 (x : FVec Ideal S32x8 .f32) (b : Fin 32) (r : Fin 8) (n : Fin 100000) :
    broadcastInDim S32x8x100000 ![0, 1, 2] bcast_S32x8x1_S32x8x100000_0_1_2
      (broadcastInDim S32x8x1 ![0, 1] bcast_S32x8_S32x8x1_0_1 x) (ValueIdx.ix3 b r n) = x (ValueIdx.ix2 b r) := by
  rw [broadcastInDim_apply _ _ _ _ (ValueIdx.ix3 b r 0) (fun a => by
    match a with
    | 0 => rfl
    | 1 => rfl
    | 2 => rfl)]
  exact broadcastInDim_apply _ _ _ _ (ValueIdx.ix2 b r) (fun a => by
    match a with
    | 0 => rfl
    | 1 => rfl)

/-- The noisy logits' maximum, of sample `r` of row `b`. -/
def top (b : Fin 32) (r : Fin 8) : EReal :=
  (Finset.univ : Finset (Fin 100000)).fold max ⊥ fun n => noisy (logit V0 b n) (wordAt b r n.val)

/-- The exponentials as one array, from the noisy logits. -/
def expArr (y : FVec Ideal S32x8x100000 .f32) : FVec Ideal S32x8x100000 .f32 :=
  Host.exp (subf y (broadcastInDim S32x8x100000 ![0, 1, 2] bcast_S32x8x1_S32x8x100000_0_1_2
    (broadcastInDim S32x8x1 ![0, 1] bcast_S32x8_S32x8x1_0_1
      (maximumf (broadcastInDim S32x8 ![] bcast_S_S32x8 (constant S_ .f32 0xFF800000#32))
        (Host.reduce FloatOps.maximumf y (constant S_ .f32 0xFF800000#32) reducesTo_S32x8x100000_S32x8_d2 h_S_)))))

/-- The larger of two, read at a place. -/
theorem max_at {s : Shape} (y z : FVec Ideal s .f32) (i : s.Idx) : maximumf y z i = max (y i : EReal) (z i) := rfl

/-- The exponential of a difference, read at a place. -/
theorem exp_sub_at {s : Shape} (y z : FVec Ideal s .f32) (i : s.Idx) : Host.exp (subf y z) i = Ideal.exp (y i - z i) := rfl

/-- An exponential is that of the noisy logit less the maximum over the sample's lanes. -/
theorem expArr_at (y : FVec Ideal S32x8x100000 .f32) (b : Fin 32) (r : Fin 8) (n : Fin 100000) :
    expArr y (ValueIdx.ix3 b r n) = Ideal.exp (y (ValueIdx.ix3 b r n)
      - (Finset.univ : Finset (Fin 100000)).fold max ⊥ fun n => y (ValueIdx.ix3 b r n)) := by
  have e := spread2 (maximumf (broadcastInDim S32x8 ![] bcast_S_S32x8 (constant S_ .f32 0xFF800000#32))
        (Host.reduce FloatOps.maximumf y (constant S_ .f32 0xFF800000#32) reducesTo_S32x8x100000_S32x8_d2 h_S_)) b r n
  have e2 : maximumf (broadcastInDim S32x8 ![] bcast_S_S32x8 (constant S_ .f32 0xFF800000#32))
        (Host.reduce FloatOps.maximumf y (constant S_ .f32 0xFF800000#32) reducesTo_S32x8x100000_S32x8_d2 h_S_)
        (ValueIdx.ix2 b r) = (Finset.univ : Finset (Fin 100000)).fold max ⊥ fun n => y (ValueIdx.ix3 b r n) := by
    rw [max_at, max2, ValueIdx.broadcastInDim_scalar_apply]
    refine max_eq_right ?_
    rw [show constant (F := Ideal) S_ .f32 0xFF800000#32 ValueIdx.ix0 = ⊥ from Pattern.minus_inf]
    exact bot_le
  unfold expArr
  rw [exp_sub_at, e, e2]

/-- The exponential of row `b`, sample `r`, lane `n`. -/
theorem v55_at (b : Fin 32) (r : Fin 8) (n : Fin 100000) :
    (res_main_v55 V0 : S32x8x100000.Idx → EReal) (ValueIdx.ix3 b r n)
      = Ideal.exp (noisy (logit V0 b n) (wordAt b r n.val) - top V0 b r) := by
  have e : (res_main_v55 V0 : S32x8x100000.Idx → EReal) = expArr (res_main_v48 V0) := rfl
  rw [e, expArr_at, v48_at]
  unfold top
  exact congrArg (fun z : EReal => Ideal.exp (noisy (logit V0 b n) (wordAt b r n.val) - z))
    (congrArg (Finset.fold max ⊥ · Finset.univ) (funext fun n => v48_at V0 b r n))

/-- The reference's result, as one term of the exponentials. -/
def resultArr (e : FVec Ideal S32x8x100000 .f32) : FVec Ideal S32x1x100000 .f32 :=
  broadcastInDim S32x1x100000 ![0, 2] bcast_S32x100000_S32x1x100000_0_2 (Host.reduce FloatOps.maximumf
    (Host.divf e (broadcastInDim S32x8x100000 ![0, 1, 2] bcast_S32x8x1_S32x8x100000_0_1_2
      (broadcastInDim S32x8x1 ![0, 1] bcast_S32x8_S32x8x1_0_1 (Host.reduceAdd e (constant S_ .f32 0x00000000#32)
        reducesTo_S32x8x100000_S32x8_d2 h_S_)))) (constant S_ .f32 0xFF800000#32)
      reducesTo_S32x8x100000_S32x100000_d1 h_S_)

/-- The result at a place is the largest, over the samples, of the exponential divided by the sample's sum. -/
theorem resultArr_at (e : FVec Ideal S32x8x100000 .f32) (b : Fin 32) (n : Fin 100000) :
    resultArr e (ValueIdx.ix3 b 0 n) = (Finset.univ : Finset (Fin 8)).fold max ⊥ fun r =>
      Ideal.div (e (ValueIdx.ix3 b r n)) (∑ n : Fin 100000, e (ValueIdx.ix3 b r n)) := by
  unfold resultArr
  rw [broadcastInDim_apply _ _ _ _ (ValueIdx.ix2 b n) (fun a => by
    match a with
    | 0 => rfl
    | 1 => rfl), max1]
  refine congrArg (Finset.fold max ⊥ · Finset.univ) (funext fun r => ?_)
  rw [ValueIdx.hostDivf_apply, spread2, sum2]

end Cert.ReferenceIdeal.Value

end
-- ==== Proof.Ref.Real.lean ====
/- The reference's result on real numbers: each place is the largest, over the eight samples, of the place's weight divided
   by the sample's sum of weights, one constant taken out of both. -/
module

public import proofs.«01_k».proof.Proof.Ref.Result
public import proofs.«01_k».proof.Proof.Math.Row

@[expose] public section

set_option maxRecDepth 16384

noncomputable section

namespace Cert.ReferenceIdeal.Value

open Cert.ReferenceIdeal Cert.ReferenceIdeal.Gen
open Idealize.ShloMosaic Cert.Rng Cert.Uniform Cert.Softmax
open scoped BigOperators

variable (V0 : Valuation τ sig (Elt Ideal))

/-- The argument's contents. -/
abbrev arg : FVec Ideal S32x1x100000 .f32 := V0 (Proc.devRef .tc main_arg0)

/-- What lane `n` of sample `r` of row `b` weighs. -/
def massAt (b : Fin 32) (r : Fin 8) (n : ℕ) : ℝ := mass (Row.at' (arg V0) b n) (wordAt b r n)

/-- A lane's weight, from the reference's own logit. -/
theorem massAt_eq (b : Fin 32) (r : Fin 8) (n : Fin 100000) :
    massAt V0 b r n.val = mass (logit V0 b n) (wordAt b r n.val) := by
  unfold massAt
  rw [Row.at_lt]
  rfl

/-- A sample's noisy logits have a real maximum. -/
theorem top_real (hA : Row.Finite (arg V0)) (b : Fin 32) (r : Fin 8) : ∃ M : ℝ, top V0 b r = (M : EReal) := by
  unfold top
  refine fold_max_real _ _ (fun n _ => noisy_ne_top ((hA b).1 n) _) ?_
  obtain ⟨n, hn⟩ := (hA b).2
  exact ⟨n, Finset.mem_univ n, noisy_ne_bot ((hA b).1 n) hn _⟩

/-- A sample's weights have a positive sum. -/
theorem sum_pos (hA : Row.Finite (arg V0)) (b : Fin 32) (r : Fin 8) : 0 < ∑ n : Fin 100000, massAt V0 b r n.val := by
  obtain ⟨n, hn⟩ := (hA b).2
  refine Finset.sum_pos' (fun n _ => mass_nonneg _ _) ⟨n, Finset.mem_univ n, ?_⟩
  rw [massAt_eq]
  exact mass_pos hn _

/-- An exponential of the reference, `M` the sample's maximum. -/
theorem v55_real (hA : Row.Finite (arg V0)) (b : Fin 32) (r : Fin 8) (M : ℝ) (hM : top V0 b r = (M : EReal))
    (n : Fin 100000) : (res_main_v55 V0 : S32x8x100000.Idx → EReal) (ValueIdx.ix3 b r n)
      = ((massAt V0 b r n.val * Real.exp (-M) : ℝ) : EReal) := by
  rw [v55_at, hM, massAt_eq]
  exact reference_exp ((hA b).1 n) _ M

/-- The share of a place in an array whose sample is real, `c` taken out. -/
theorem share_of (e : S32x8x100000.Idx → EReal) (g : Fin 100000 → ℝ) (b : Fin 32) (r : Fin 8) (n : Fin 100000) (c d : ℝ)
    (hg : 0 < ∑ n, g n) (hc : 0 < c) (hd : 0 < d) (he : ∀ n, e (ValueIdx.ix3 b r n) = ((g n * c : ℝ) : EReal)) :
    Ideal.div (e (ValueIdx.ix3 b r n)) (∑ n : Fin 100000, e (ValueIdx.ix3 b r n))
      = ((g n * d : ℝ) : EReal) * Ideal.div ((1 : ℝ) : EReal) (((∑ n : Fin 100000, g n) * d : ℝ) : EReal) := by
  rw [Finset.sum_congr rfl fun n _ => he n, he n, sum_coe, ← Finset.sum_mul]
  exact share _ _ _ _ hg hc hd

/-- A place's share in sample `r`, with any constant `d > 0` taken out and divided by the sum or multiplied by its inverse. -/
theorem share_real (hA : Row.Finite (arg V0)) (b : Fin 32) (r : Fin 8) (n : Fin 100000) (d : ℝ) (hd : 0 < d) :
    Ideal.div ((res_main_v55 V0 : S32x8x100000.Idx → EReal) (ValueIdx.ix3 b r n))
        (∑ n : Fin 100000, ((res_main_v55 V0 : S32x8x100000.Idx → EReal) (ValueIdx.ix3 b r n) : EReal))
      = ((massAt V0 b r n.val * d : ℝ) : EReal)
        * Ideal.div ((1 : ℝ) : EReal) (((∑ n : Fin 100000, massAt V0 b r n.val) * d : ℝ) : EReal) := by
  obtain ⟨M, hM⟩ := top_real V0 hA b r
  exact share_of _ (fun n => massAt V0 b r n.val) b r n _ d (sum_pos V0 hA b r) (Real.exp_pos (-M)) hd (v55_real V0 hA b r M hM)

/-- The reference on real numbers: for every constant `d > 0`, the result at row `b`, lane `n` is the largest, over the
    samples, of the lane's weight times the inverse of the sum of the row's weights, `d` taken out of both. -/
theorem result_real (hA : Row.Finite (arg V0)) (b : Fin 32) (n : Fin 100000) (d : ℝ) (hd : 0 < d) :
    resultArr (res_main_v55 V0) (ValueIdx.ix3 b (0 : Fin 1) n) = (Finset.univ : Finset (Fin 8)).fold max ⊥ fun r =>
      ((massAt V0 b r n.val * d : ℝ) : EReal)
        * Ideal.div ((1 : ℝ) : EReal) (((∑ n : Fin 100000, massAt V0 b r n.val) * d : ℝ) : EReal) := by
  rw [resultArr_at]
  exact congrArg (Finset.fold max ⊥ · Finset.univ) (funext fun r => share_real V0 hA b r n d hd)

end Cert.ReferenceIdeal.Value

end
-- ==== Proof.Equal.lean ====
/- The two programs' results are equal, place by place, on arguments whose rows are `Row.Finite`. -/
module

public import proofs.«01_k».proof.Proof.Kern.Value
public import proofs.«01_k».proof.Proof.Ref.Real

@[expose] public section

set_option maxRecDepth 16384

noncomputable section

namespace Cert.Equal

open Idealize.ShloMosaic Idealize.ShloMosaic.TcCoe Idealize.SL.Sem
open Cert.KernelIdeal.Val

/-- The weights of the two sides are the same when their arguments are. -/
theorem mass_eq (A : (⟨3, ![32, 1, 100000]⟩ : Shape).Idx → EReal) (V0 : Valuation Cert.ReferenceIdeal.τ Cert.ReferenceIdeal.sig (Elt Ideal))
    (h : Cert.ReferenceIdeal.Value.arg V0 = A) (b : Fin 32) (r : Fin 8) (n : ℕ) :
    Cert.ReferenceIdeal.Value.massAt V0 b r n = massAt (Row.at' A b) b.val r n := by
  subst h
  rfl

/-- The kernel's result is the reference's. -/
theorem value_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h : Cert.ReferenceIdeal.Value.arg V0 = Cert.KernelIdeal.Val.arg m c) (hA : Row.Finite (Cert.KernelIdeal.Val.arg m c)) :
    Cert.ReferenceIdeal.Value.resultArr (Cert.ReferenceIdeal.Value.res_main_v55 V0) = value m c := by
  funext i
  have hi : i = ValueIdx.ix3 (i 0) (0 : Fin 1) (i 2) := funext fun a => by
    match a with
    | 0 => rfl
    | 1 => exact Subsingleton.elim (α := Fin 1) _ _
    | 2 => rfl
  obtain ⟨d, hd, e⟩ := value_real m c hA (i 0) (i 2)
  have hA' : Row.Finite (Cert.ReferenceIdeal.Value.arg V0) := by rw [h]; exact hA
  have e' := Cert.ReferenceIdeal.Value.result_real V0 hA' (i 0) (i 2) d hd
  have hm : Cert.ReferenceIdeal.Value.massAt V0 (i 0) = massAt (Row.at' (Cert.KernelIdeal.Val.arg m c) (i 0)) (i 0).val :=
    funext fun r => funext fun n => mass_eq (Cert.KernelIdeal.Val.arg m c) V0 h (i 0) r n
  rw [hm] at e'
  rw [hi]
  exact e'.trans e.symm

end Cert.Equal

end
-- ==== Proof.lean ====
/- The certificate's claim, assembled. The two readings of the kernel and the reference run, leave their arguments as they
   were and every semaphore counter at zero; the idealized kernel is the kernel's own text; and on real numbers extended by
   the infinities the kernel's result is the reference's, for every argument whose rows have a finite maximum. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Orig.Run
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Kern.Run
public import proofs.«01_k».proof.Proof.Gen.ReferenceIdeal
public import proofs.«01_k».proof.Proof.Gen.Pre_finite_row_max
public import proofs.«01_k».proof.Proof.Ref.Frame
public import proofs.«01_k».proof.Proof.Pre
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From the precondition and equal arguments, both programs run to the same result and leave their arguments as they
    were: the kernel's run gives the value, and the reference's run ends holding it. -/
theorem algebraic : algebraic_KernelIdeal_ReferenceIdeal_pre_finite_row_max (hKernelIdeal := Cert.KernelIdeal.Gen.facts)
    (hReferenceIdeal := Cert.ReferenceIdeal.Gen.facts) (hPre_finite_row_max := Cert.Pre_finite_row_max.Gen.facts) := by
  intro m g m' g' hpre hagree
  refine ⟨fun c => Cert.KernelIdeal.Val.value m c, Cert.KernelIdeal.Val.run_value m g,
    (θ_run Cert.ReferenceIdeal.defs _ _).mono (fun r h c => ⟨(h c).1.trans ?_, (h c).2⟩) (Cert.ReferenceIdeal.Value.run m' g')⟩
  exact Cert.Equal.value_eq m c (StableHlo.launchContents m' c) (hagree c) (Cert.Pre_finite_row_max.finite_of_fn _ (hpre c))

/-- Everything the certificate claims. -/
theorem claim : Cert.Claim := ⟨Cert.Kernel.Gen.facts, Cert.KernelIdeal.Gen.facts, Cert.ReferenceIdeal.Gen.facts,
  Cert.Pre_finite_row_max.Gen.facts, fun m ρ _ => Cert.Kernel.Val.frame m ρ, fun m ρ _ => Cert.KernelIdeal.Val.frame m ρ,
  fun m ρ _ => Cert.KernelIdeal.Val.frame m ρ, fun m ρ _ => Cert.ReferenceIdeal.Value.frame m ρ,
  fun m ρ _ => Cert.ReferenceIdeal.Value.frame m ρ, trivial, algebraic⟩

end Cert.Proof

end
